-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range_no_bias [hPre_edges_in_range_no_bias : Cert.Pre_edges_in_range_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range_no_bias [hPre_edges_in_range_no_bias : Cert.Pre_edges_in_range_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_edges_in_range_no_bias [hKernelIdeal : Cert.KernelIdeal.Facts] [hPre_edges_in_range_no_bias : Cert.Pre_edges_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_edges_in_range_no_bias [hReferenceIdeal : Cert.ReferenceIdeal.Facts] [hPre_edges_in_range_no_bias : Cert.Pre_edges_in_range_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)

def algebraic_KernelIdeal_ReferenceIdeal_pre_edges_in_range_no_bias [hKernelIdeal : Cert.KernelIdeal.Facts] [hReferenceIdeal : Cert.ReferenceIdeal.Facts] [hPre_edges_in_range_no_bias : Cert.Pre_edges_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_edges_in_range_no_bias : Cert.Pre_edges_in_range_no_bias.Facts),
    quiescent_Kernel (hKernel := hKernel)
    ∧ quiescent_KernelIdeal (hKernelIdeal := hKernelIdeal)
    ∧ quiescent_KernelIdeal_pre_edges_in_range_no_bias (hKernelIdeal := hKernelIdeal) (hPre_edges_in_range_no_bias := hPre_edges_in_range_no_bias)
    ∧ quiescent_ReferenceIdeal (hReferenceIdeal := hReferenceIdeal)
    ∧ quiescent_ReferenceIdeal_pre_edges_in_range_no_bias (hReferenceIdeal := hReferenceIdeal) (hPre_edges_in_range_no_bias := hPre_edges_in_range_no_bias)
    ∧ preserves_Kernel_KernelIdeal
    ∧ algebraic_KernelIdeal_ReferenceIdeal_pre_edges_in_range_no_bias (hKernelIdeal := hKernelIdeal) (hReferenceIdeal := hReferenceIdeal) (hPre_edges_in_range_no_bias := hPre_edges_in_range_no_bias)
-- ==== Pre_edges_in_range_no_bias.lean ====
abbrev S3x512 : Shape := ⟨2, ![3, 512]⟩
abbrev S2x6 : Shape := ⟨2, ![2, 6]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S128x192 : Shape := ⟨2, ![128, 192]⟩
abbrev S_ : Shape := ⟨0, ![]⟩

class Facts : Prop where
  bcast_S_S2x6 : S_.BroadcastsInDim S2x6 (![] : Fin 0 → Fin S2x6.rank)
  reducesTo_S2x6_S_d0_1 : S2x6.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg9 : FVec F S64 .f32) (main_arg12 : FVec F S128 .f32) (main_v14 : IVec S_ 1) (main_v15 : FVec F S128 .f32) : IVec S_ 1 :=
  let main_v16 : IVec S128 1 := cmpf .oeq main_arg6 main_v15
  let main_c_6 : IVec S_ 1 := constantI S_ 1 1#1
  let main_v17 : IVec S_ 1 := (fun x v => Host.reduce IntOp.andi x v reducesTo_S128_S_d0 h_S_) main_v16 main_c_6
  let main_v18 : IVec S_ 1 := andi main_v14 main_v17
  let main_cst_7 : FVec F S_ .f32 := constant S_ .f32 0x00000000#32
  let main_v19 : FVec F S64 .f32 := broadcastInDim S64 ![] bcast_S_S64 main_cst_7
  let main_v20 : IVec S64 1 := cmpf .oeq main_arg9 main_v19
  let main_c_8 : IVec S_ 1 := constantI S_ 1 1#1
  let main_v21 : IVec S_ 1 := (fun x v => Host.reduce IntOp.andi x v reducesTo_S64_S_d0 h_S_) main_v20 main_c_8
  let main_v22 : IVec S_ 1 := andi main_v18 main_v21
  let main_cst_9 : FVec F S_ .f32 := constant S_ .f32 0x00000000#32
  let main_v23 : FVec F S128 .f32 := broadcastInDim S128 ![] bcast_S_S128 main_cst_9
  let main_v24 : IVec S128 1 := cmpf .oeq main_arg12 main_v23
  let main_c_10 : IVec S_ 1 := constantI S_ 1 1#1
  let main_v25 : IVec S_ 1 := (fun x v => Host.reduce IntOp.andi x v reducesTo_S128_S_d0 h_S_) main_v24 main_c_10
  let main_v26 : IVec S_ 1 := andi main_v22 main_v25
  main_v26

def fn {F : FTy → Type} [FloatOps F] (main_arg0 : FVec F S3x512 .f32) (main_arg1 : IVec S2x6 32) (main_arg2 : FVec F S256x512 .f32) (main_arg3 : FVec F S256 .f32) (main_arg4 : FVec F S256x512 .f32) (main_arg5 : FVec F S128x256 .f32) (main_arg6 : FVec F S128 .f32) (main_arg7 : FVec F S128x256 .f32) (main_arg8 : FVec F S64x128 .f32) (main_arg9 : FVec F S64 .f32) (main_arg10 : FVec F S64x128 .f32) (main_arg11 : FVec F S128x192 .f32) (main_arg12 : FVec F S128 .f32) : IVec S_ 1 :=
  let main_c : IVec S_ 32 := constantI S_ 32 0#32
  let main_v0 : IVec S2x6 32 := broadcastInDim S2x6 ![] bcast_S_S2x6 main_c
  let main_v1 : IVec S2x6 1 := cmpi .sge main_arg1 main_v0
  let main_c_0 : IVec S_ 32 := constantI S_ 32 3#32
  let main_v2 : IVec S2x6 32 := broadcastInDim S2x6 ![] bcast_S_S2x6 main_c_0
  let main_v3 : IVec S2x6 1 := cmpi .slt main_arg1 main_v2
  let main_v4 : IVec S2x6 1 := andi main_v1 main_v3
  let main_c_1 : IVec S_ 1 := constantI S_ 1 1#1
  let main_v5 : IVec S_ 1 := (fun x v => Host.reduce IntOp.andi x v reducesTo_S2x6_S_d0_1 h_S_) main_v4 main_c_1
  let main_v6 : FVec F S256x512 .f32 := Host.absf main_arg2
  let main_cst : FVec F S_ .f32 := constant S_ .f32 0x7F800000#32
  let main_v7 : FVec F S256x512 .f32 := broadcastInDim S256x512 ![] bcast_S_S256x512 main_cst
  let main_v8 : IVec S256x512 1 := cmpf .olt main_v6 main_v7
  let main_c_2 : IVec S_ 1 := constantI S_ 1 1#1
  let main_v9 : IVec S_ 1 := (fun x v => Host.reduce IntOp.andi x v reducesTo_S256x512_S_d0_1 h_S_) main_v8 main_c_2
  let main_v10 : IVec S_ 1 := andi main_v5 main_v9
  let main_cst_3 : FVec F S_ .f32 := constant S_ .f32 0x00000000#32
  let main_v11 : FVec F S256 .f32 := broadcastInDim S256 ![] bcast_S_S256 main_cst_3
  let main_v12 : IVec S256 1 := cmpf .oeq main_arg3 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v10 main_v13
  let main_cst_5 : FVec F S_ .f32 := constant S_ .f32 0x00000000#32
  let main_v15 : FVec F S128 .f32 := broadcastInDim S128 ![] bcast_S_S128 main_cst_5
  fn_part1 (F := F) main_arg6 main_arg9 main_arg12 main_v14 main_v15
-- ==== Kernel.lean ====
abbrev S3x512 : Shape := ⟨2, ![3, 512]⟩
abbrev S2x6 : Shape := ⟨2, ![2, 6]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S128x192 : Shape := ⟨2, ![128, 192]⟩
abbrev S5 : Shape := ⟨1, ![5]⟩
abbrev S1 : Shape := ⟨1, ![1]⟩
abbrev S_ : Shape := ⟨0, ![]⟩
abbrev S3x3 : Shape := ⟨2, ![3, 3]⟩
abbrev S1x1 : Shape := ⟨2, ![1, 1]⟩
abbrev S3 : Shape := ⟨1, ![3]⟩
abbrev S3x1 : Shape := ⟨2, ![3, 1]⟩
abbrev S3x256 : Shape := ⟨2, ![3, 256]⟩
abbrev S1x256 : Shape := ⟨2, ![1, 256]⟩
abbrev S3x128 : Shape := ⟨2, ![3, 128]⟩
abbrev S1x128 : Shape := ⟨2, ![1, 128]⟩
abbrev S3x64 : Shape := ⟨2, ![3, 64]⟩
abbrev S1x64 : Shape := ⟨2, ![1, 64]⟩
abbrev S1x192 : Shape := ⟨2, ![1, 192]⟩

abbrev nBuf : Space → Nat
  | .hbm => 14
  | .vmem => 9
  | .smem => 1
  | _ => 0

abbrev bufTy : (tb : Table) → Fin (tcTables nBuf tb) → BufTy
  | .hbm, ⟨0, _⟩ => ⟨S3x512, .f32⟩
  | .hbm, ⟨1, _⟩ => ⟨S2x6, .i32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S128x192, .f32⟩
  | .hbm, ⟨12, _⟩ => ⟨S128, .f32⟩
  | .hbm, ⟨13, _⟩ => ⟨S128, .f32⟩
  | .local _ .vmem, ⟨0, _⟩ => ⟨S3x512, .f32⟩
  | .local _ .vmem, ⟨1, _⟩ => ⟨S256x512, .f32⟩
  | .local _ .vmem, ⟨2, _⟩ => ⟨S256x512, .f32⟩
  | .local _ .vmem, ⟨3, _⟩ => ⟨S128, .f32⟩
  | .local _ .vmem, ⟨4, _⟩ => ⟨S128x256, .f32⟩
  | .local _ .vmem, ⟨5, _⟩ => ⟨S128x256, .f32⟩
  | .local _ .vmem, ⟨6, _⟩ => ⟨S64x128, .f32⟩
  | .local _ .vmem, ⟨7, _⟩ => ⟨S64x128, .f32⟩
  | .local _ .vmem, ⟨8, _⟩ => ⟨S128x192, .f32⟩
  | .local _ .smem, ⟨0, _⟩ => ⟨S2x6, .i32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S2x6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "floor_sq" => some ((5316911940649 / 5316911983139663491615228241121378304 : ℝ) : EReal)
  | _ => none
-- ==== ReferenceIdeal.lean ====
abbrev S3x512 : Shape := ⟨2, ![3, 512]⟩
abbrev S2x6 : Shape := ⟨2, ![2, 6]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S128x192 : Shape := ⟨2, ![128, 192]⟩
abbrev S1x6 : Shape := ⟨2, ![1, 6]⟩
abbrev S6 : Shape := ⟨1, ![6]⟩
abbrev S_ : Shape := ⟨0, ![]⟩
abbrev S6x1 : Shape := ⟨2, ![6, 1]⟩
abbrev S6x512 : Shape := ⟨2, ![6, 512]⟩
abbrev S3 : Shape := ⟨1, ![3]⟩
abbrev S3x1 : Shape := ⟨2, ![3, 1]⟩
abbrev S512x256 : Shape := ⟨2, ![512, 256]⟩
abbrev S3x256 : Shape := ⟨2, ![3, 256]⟩
abbrev S1x256 : Shape := ⟨2, ![1, 256]⟩
abbrev S6x256 : Shape := ⟨2, ![6, 256]⟩
abbrev S256x128 : Shape := ⟨2, ![256, 128]⟩
abbrev S3x128 : Shape := ⟨2, ![3, 128]⟩
abbrev S1x128 : Shape := ⟨2, ![1, 128]⟩
abbrev S6x128 : Shape := ⟨2, ![6, 128]⟩
abbrev S128x64 : Shape := ⟨2, ![128, 64]⟩
abbrev S3x64 : Shape := ⟨2, ![3, 64]⟩
abbrev S1x64 : Shape := ⟨2, ![1, 64]⟩
abbrev S192 : Shape := ⟨1, ![192]⟩
abbrev S1 : Shape := ⟨1, ![1]⟩

abbrev nBuf : Space → Nat
  | .hbm => 221
  | .vmem => 0
  | .smem => 0
  | _ => 0

abbrev hbmTy0_0 (i : Nat) : BufTy := match i % 128 with
  | 0 => ⟨S3x512, .f32⟩
  | 1 => ⟨S2x6, .i32⟩
  | 2 => ⟨S256x512, .f32⟩
  | 3 => ⟨S256, .f32⟩
  | 4 => ⟨S256x512, .f32⟩
  | 5 => ⟨S128x256, .f32⟩
  | 6 => ⟨S128, .f32⟩
  | 7 => ⟨S128x256, .f32⟩
  | 8 => ⟨S64x128, .f32⟩
  | 9 => ⟨S64, .f32⟩
  | 10 => ⟨S64x128, .f32⟩
  | 11 => ⟨S128x192, .f32⟩
  | 12 => ⟨S128, .f32⟩
  | 13 => ⟨S1x6, .i32⟩
  | 14 => ⟨S6, .i32⟩
  | 15 => ⟨S1x6, .i32⟩
  | 16 => ⟨S6, .i32⟩
  | 17 => ⟨S_, .i32⟩
  | 18 => ⟨S6, .i32⟩
  | 19 => ⟨S6, .i1⟩
  | 20 => ⟨S_, .i32⟩
  | 21 => ⟨S6, .i32⟩
  | 22 => ⟨S6, .i32⟩
  | 23 => ⟨S6, .i32⟩
  | 24 => ⟨S6x1, .i32⟩
  | 25 => ⟨S6x512, .f32⟩
  | 26 => ⟨S_, .f32⟩
  | 27 => ⟨S3x512, .f32⟩
  | 28 => ⟨S_, .i32⟩
  | 29 => ⟨S6, .i32⟩
  | 30 => ⟨S6, .i1⟩
  | 31 => ⟨S_, .i32⟩
  | 32 => ⟨S6, .i32⟩
  | 33 => ⟨S6, .i32⟩
  | 34 => ⟨S6, .i32⟩
  | 35 => ⟨S6x1, .i32⟩
  | 36 => ⟨S3x512, .f32⟩
  | 37 => ⟨S_, .f32⟩
  | 38 => ⟨S3, .f32⟩
  | 39 => ⟨S_, .i32⟩
  | 40 => ⟨S6, .i32⟩
  | 41 => ⟨S6, .i1⟩
  | 42 => ⟨S_, .i32⟩
  | 43 => ⟨S6, .i32⟩
  | 44 => ⟨S6, .i32⟩
  | 45 => ⟨S6, .i32⟩
  | 46 => ⟨S6x1, .i32⟩
  | 47 => ⟨S_, .f32⟩
  | 48 => ⟨S6, .f32⟩
  | 49 => ⟨S3, .f32⟩
  | 50 => ⟨S_, .f32⟩
  | 51 => ⟨S3, .f32⟩
  | 52 => ⟨S3, .f32⟩
  | 53 => ⟨S3x1, .f32⟩
  | 54 => ⟨S3x512, .f32⟩
  | 55 => ⟨S3x512, .f32⟩
  | 56 => ⟨S512x256, .f32⟩
  | 57 => ⟨S3x256, .f32⟩
  | 58 => ⟨S1x256, .f32⟩
  | 59 => ⟨S3x256, .f32⟩
  | 60 => ⟨S3x256, .f32⟩
  | 61 => ⟨S512x256, .f32⟩
  | 62 => ⟨S3x256, .f32⟩
  | 63 => ⟨S3x256, .f32⟩
  | 64 => ⟨S3x256, .f32⟩
  | 65 => ⟨S_, .f32⟩
  | 66 => ⟨S3, .f32⟩
  | 67 => ⟨S3x1, .f32⟩
  | 68 => ⟨S3x1, .f32⟩
  | 69 => ⟨S_, .f32⟩
  | 70 => ⟨S3x1, .f32⟩
  | 71 => ⟨S3x1, .f32⟩
  | 72 => ⟨S3x256, .f32⟩
  | 73 => ⟨S3x256, .f32⟩
  | 74 => ⟨S_, .f32⟩
  | 75 => ⟨S3x256, .f32⟩
  | 76 => ⟨S3x256, .f32⟩
  | 77 => ⟨S1x6, .i32⟩
  | 78 => ⟨S6, .i32⟩
  | 79 => ⟨S1x6, .i32⟩
  | 80 => ⟨S6, .i32⟩
  | 81 => ⟨S_, .i32⟩
  | 82 => ⟨S6, .i32⟩
  | 83 => ⟨S6, .i1⟩
  | 84 => ⟨S_, .i32⟩
  | 85 => ⟨S6, .i32⟩
  | 86 => ⟨S6, .i32⟩
  | 87 => ⟨S6, .i32⟩
  | 88 => ⟨S6x1, .i32⟩
  | 89 => ⟨S6x256, .f32⟩
  | 90 => ⟨S_, .f32⟩
  | 91 => ⟨S3x256, .f32⟩
  | 92 => ⟨S_, .i32⟩
  | 93 => ⟨S6, .i32⟩
  | 94 => ⟨S6, .i1⟩
  | 95 => ⟨S_, .i32⟩
  | 96 => ⟨S6, .i32⟩
  | 97 => ⟨S6, .i32⟩
  | 98 => ⟨S6, .i32⟩
  | 99 => ⟨S6x1, .i32⟩
  | 100 => ⟨S3x256, .f32⟩
  | 101 => ⟨S_, .f32⟩
  | 102 => ⟨S3, .f32⟩
  | 103 => ⟨S_, .i32⟩
  | 104 => ⟨S6, .i32⟩
  | 105 => ⟨S6, .i1⟩
  | 106 => ⟨S_, .i32⟩
  | 107 => ⟨S6, .i32⟩
  | 108 => ⟨S6, .i32⟩
  | 109 => ⟨S6, .i32⟩
  | 110 => ⟨S6x1, .i32⟩
  | 111 => ⟨S_, .f32⟩
  | 112 => ⟨S6, .f32⟩
  | 113 => ⟨S3, .f32⟩
  | 114 => ⟨S_, .f32⟩
  | 115 => ⟨S3, .f32⟩
  | 116 => ⟨S3, .f32⟩
  | 117 => ⟨S3x1, .f32⟩
  | 118 => ⟨S3x256, .f32⟩
  | 119 => ⟨S3x256, .f32⟩
  | 120 => ⟨S256x128, .f32⟩
  | 121 => ⟨S3x128, .f32⟩
  | 122 => ⟨S1x128, .f32⟩
  | 123 => ⟨S3x128, .f32⟩
  | 124 => ⟨S3x128, .f32⟩
  | 125 => ⟨S256x128, .f32⟩
  | 126 => ⟨S3x128, .f32⟩
  | 127 => ⟨S3x128, .f32⟩
  | _ => ⟨S3x512, .f32⟩

abbrev hbmTy0_1 (i : Nat) : BufTy := match i % 128 with
  | 0 => ⟨S3x128, .f32⟩
  | 1 => ⟨S_, .f32⟩
  | 2 => ⟨S3, .f32⟩
  | 3 => ⟨S3x1, .f32⟩
  | 4 => ⟨S3x1, .f32⟩
  | 5 => ⟨S_, .f32⟩
  | 6 => ⟨S3x1, .f32⟩
  | 7 => ⟨S3x1, .f32⟩
  | 8 => ⟨S3x128, .f32⟩
  | 9 => ⟨S3x128, .f32⟩
  | 10 => ⟨S_, .f32⟩
  | 11 => ⟨S3x128, .f32⟩
  | 12 => ⟨S3x128, .f32⟩
  | 13 => ⟨S1x6, .i32⟩
  | 14 => ⟨S6, .i32⟩
  | 15 => ⟨S1x6, .i32⟩
  | 16 => ⟨S6, .i32⟩
  | 17 => ⟨S_, .i32⟩
  | 18 => ⟨S6, .i32⟩
  | 19 => ⟨S6, .i1⟩
  | 20 => ⟨S_, .i32⟩
  | 21 => ⟨S6, .i32⟩
  | 22 => ⟨S6, .i32⟩
  | 23 => ⟨S6, .i32⟩
  | 24 => ⟨S6x1, .i32⟩
  | 25 => ⟨S6x128, .f32⟩
  | 26 => ⟨S_, .f32⟩
  | 27 => ⟨S3x128, .f32⟩
  | 28 => ⟨S_, .i32⟩
  | 29 => ⟨S6, .i32⟩
  | 30 => ⟨S6, .i1⟩
  | 31 => ⟨S_, .i32⟩
  | 32 => ⟨S6, .i32⟩
  | 33 => ⟨S6, .i32⟩
  | 34 => ⟨S6, .i32⟩
  | 35 => ⟨S6x1, .i32⟩
  | 36 => ⟨S3x128, .f32⟩
  | 37 => ⟨S_, .f32⟩
  | 38 => ⟨S3, .f32⟩
  | 39 => ⟨S_, .i32⟩
  | 40 => ⟨S6, .i32⟩
  | 41 => ⟨S6, .i1⟩
  | 42 => ⟨S_, .i32⟩
  | 43 => ⟨S6, .i32⟩
  | 44 => ⟨S6, .i32⟩
  | 45 => ⟨S6, .i32⟩
  | 46 => ⟨S6x1, .i32⟩
  | 47 => ⟨S_, .f32⟩
  | 48 => ⟨S6, .f32⟩
  | 49 => ⟨S3, .f32⟩
  | 50 => ⟨S_, .f32⟩
  | 51 => ⟨S3, .f32⟩
  | 52 => ⟨S3, .f32⟩
  | 53 => ⟨S3x1, .f32⟩
  | 54 => ⟨S3x128, .f32⟩
  | 55 => ⟨S3x128, .f32⟩
  | 56 => ⟨S128x64, .f32⟩
  | 57 => ⟨S3x64, .f32⟩
  | 58 => ⟨S1x64, .f32⟩
  | 59 => ⟨S3x64, .f32⟩
  | 60 => ⟨S3x64, .f32⟩
  | 61 => ⟨S128x64, .f32⟩
  | 62 => ⟨S3x64, .f32⟩
  | 63 => ⟨S3x64, .f32⟩
  | 64 => ⟨S3x64, .f32⟩
  | 65 => ⟨S_, .f32⟩
  | 66 => ⟨S3, .f32⟩
  | 67 => ⟨S3x1, .f32⟩
  | 68 => ⟨S3x1, .f32⟩
  | 69 => ⟨S_, .f32⟩
  | 70 => ⟨S3x1, .f32⟩
  | 71 => ⟨S3x1, .f32⟩
  | 72 => ⟨S3x64, .f32⟩
  | 73 => ⟨S3x64, .f32⟩
  | 74 => ⟨S_, .f32⟩
  | 75 => ⟨S3x64, .f32⟩
  | 76 => ⟨S3x64, .f32⟩
  | 77 => ⟨S192, .f32⟩
  | 78 => ⟨S128, .f32⟩
  | 79 => ⟨S128, .f32⟩
  | 80 => ⟨S_, .f32⟩
  | 81 => ⟨S_, .f32⟩
  | 82 => ⟨S_, .f32⟩
  | 83 => ⟨S_, .f32⟩
  | 84 => ⟨S1, .f32⟩
  | 85 => ⟨S128, .f32⟩
  | 86 => ⟨S128, .f32⟩
  | 87 => ⟨S128, .f32⟩
  | 88 => ⟨S_, .f32⟩
  | 89 => ⟨S_, .f32⟩
  | 90 => ⟨S1, .f32⟩
  | 91 => ⟨S128, .f32⟩
  | 92 => ⟨S128, .f32⟩
  | _ => ⟨S3x512, .f32⟩

abbrev hbmTy (i : Nat) : BufTy := match i / 128 with
  | 0 => hbmTy0_0 i
  | 1 => hbmTy0_1 i
  | _ => ⟨S3x512, .f32⟩

abbrev bufTy : (tb : Table) → Fin (tcTables nBuf tb) → BufTy
  | .hbm, ⟨i, _⟩ => hbmTy i
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_cst : Ref sig .tc := ⟨.hbm, 65, rfl⟩
abbrev main_call0_v1 : Ref sig .tc := ⟨.hbm, 66, rfl⟩
abbrev main_call0_v2 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_cst : Ref sig .tc := ⟨.hbm, 74, rfl⟩
abbrev main_call1_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_v0 : Ref sig .tc := ⟨.hbm, 128, rfl⟩
abbrev main_call2_cst : Ref sig .tc := ⟨.hbm, 129, rfl⟩
abbrev main_call2_v1 : Ref sig .tc := ⟨.hbm, 130, rfl⟩
abbrev main_call2_v2 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call3_cst : Ref sig .tc := ⟨.hbm, 138, rfl⟩
abbrev main_call3_v0 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_20 : Ref sig .tc := ⟨.hbm, 145, rfl⟩
abbrev main_v98 : Ref sig .tc := ⟨.hbm, 146, rfl⟩
abbrev main_v99 : Ref sig .tc := ⟨.hbm, 147, rfl⟩
abbrev main_c_21 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_22 : Ref sig .tc := ⟨.hbm, 154, rfl⟩
abbrev main_v105 : Ref sig .tc := ⟨.hbm, 155, rfl⟩
abbrev main_c_23 : Ref sig .tc := ⟨.hbm, 156, rfl⟩
abbrev main_v106 : Ref sig .tc := ⟨.hbm, 157, rfl⟩
abbrev main_v107 : Ref sig .tc := ⟨.hbm, 158, rfl⟩
abbrev main_c_24 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_25 : Ref sig .tc := ⟨.hbm, 165, rfl⟩
abbrev main_v113 : Ref sig .tc := ⟨.hbm, 166, rfl⟩
abbrev main_c_26 : Ref sig .tc := ⟨.hbm, 167, rfl⟩
abbrev main_v114 : Ref sig .tc := ⟨.hbm, 168, rfl⟩
abbrev main_v115 : Ref sig .tc := ⟨.hbm, 169, rfl⟩
abbrev main_c_27 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_28 : Ref sig .tc := ⟨.hbm, 175, rfl⟩
abbrev main_v120 : Ref sig .tc := ⟨.hbm, 176, rfl⟩
abbrev main_v121 : Ref sig .tc := ⟨.hbm, 177, rfl⟩
abbrev main_cst_29 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_call4_v0 : Ref sig .tc := ⟨.hbm, 192, rfl⟩
abbrev main_call4_cst : Ref sig .tc := ⟨.hbm, 193, rfl⟩
abbrev main_call4_v1 : Ref sig .tc := ⟨.hbm, 194, rfl⟩
abbrev main_call4_v2 : Ref sig .tc := ⟨.hbm, 195, rfl⟩
abbrev main_v135 : Ref sig .tc := ⟨.hbm, 196, rfl⟩
abbrev main_cst_30 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_call5_cst : Ref sig .tc := ⟨.hbm, 202, rfl⟩
abbrev main_call5_v0 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_31 : Ref sig .tc := ⟨.hbm, 208, rfl⟩
abbrev main_v144 : Ref sig .tc := ⟨.hbm, 209, rfl⟩
abbrev main_cst_32 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_33 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.Value
public import Idealize.ShloMosaic.Lib.Tactic
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F] [Named F]

/-- The block offset of a whole matrix is zero. -/
theorem off2 : (![0, 0] : Fin 2 → Nat) = fun _ => 0 := funext fun a => by fin_cases a <;> rfl
/-- The block offset of a whole vector is zero. -/
theorem off1 : (![0] : Fin 1 → Nat) = fun _ => 0 := funext fun a => by fin_cases a; rfl

/-- The first-layer-to-last averaging matrix the block forms from the edge words: entry by entry the number of edges
    that lead from one node to another, divided by the row's sum (at least one). -/
def adj (e : Vec F S2x6 .i32) : FVec F S3x3 .f32 :=
  k0_pay4 (iota .tc S3x3 32 [0] iota_S3x3_d0_w32) (iota .tc S3x3 32 [1] iota_S3x3_d1_w32)
    (k0_pay2 (e (ix2 0 0)) (e (ix2 1 0)) (e (ix2 0 1)) (e (ix2 1 1))) (e (ix2 0 2)) (k0_pay3 (e (ix2 1 2)))
    (e (ix2 0 3)) (e (ix2 1 3)) (e (ix2 0 4)) (e (ix2 1 4)) (e (ix2 0 5)) (e (ix2 1 5))

/-- The scale of each row after the second layer, from the averaging matrix, the features and the first two layers'
    weights. -/
def scale2 (A : FVec F S3x3 .f32) (x : Vec F S3x512 .f32) (W1l W1r : Vec F S256x512 .f32) (W2l W2r : Vec F S128x256 .f32) :
    FVec F S3x1 .f32 :=
  k0_pay12 A (k0_pay6 A x W1l W1r) (k0_pay8 A x W1l W1r W2l) (k0_pay9 A x W1l W1r W2r) (k0_pay10 A x W1l W1r)

/-- The block's result before the last reshape, from the averaging matrix. -/
def fusedRow (A : FVec F S3x3 .f32) (x : Vec F S3x512 .f32) (W1l W1r : Vec F S256x512 .f32) (W2l W2r : Vec F S128x256 .f32)
    (W3l W3r : Vec F S64x128 .f32) (Wfc : Vec F S128x192 .f32) : FVec F S1x128 .f32 :=
  k0_pay18 A (scale2 A x W1l W1r W2l W2r)
    (k0_pay14 A (k0_pay6 A x W1l W1r) (k0_pay8 A x W1l W1r W2l) (k0_pay9 A x W1l W1r W2r) (k0_pay10 A x W1l W1r) W3l)
    (k0_pay15 A (k0_pay6 A x W1l W1r) (k0_pay8 A x W1l W1r W2l) (k0_pay9 A x W1l W1r W2r) (k0_pay10 A x W1l W1r) W3r)
    (k0_pay16 A (k0_pay6 A x W1l W1r) (k0_pay8 A x W1l W1r W2l) (k0_pay9 A x W1l W1r W2r) (k0_pay10 A x W1l W1r) W3l)
    (k0_pay17 A (k0_pay6 A x W1l W1r) (k0_pay8 A x W1l W1r W2l) (k0_pay9 A x W1l W1r W2r) (k0_pay10 A x W1l W1r)) Wfc

/-- The block's result: one vector of 128 numbers computed from the edge words, the features and the weights. -/
def fused (e : Vec F S2x6 .i32) (x : Vec F S3x512 .f32) (W1l W1r : Vec F S256x512 .f32) (W2l W2r : Vec F S128x256 .f32)
    (W3l W3r : Vec F S64x128 .f32) (Wfc : Vec F S128x192 .f32) : FVec F S128 .f32 :=
  k0_pay1 (fusedRow (adj e) x W1l W1r W2l W2r W3l W3r Wfc)

/-- A load of one word of the edge array reads the word at the load's offsets. -/
theorem edge_word (e : Vec F S2x6 .i32) (arg0 : Memref sig .tc .smem S2x6 .i32) (harg0 : arg0.IsWhole) (r : Fin 2) (k : Fin 6)
    {off : Fin 2 → Nat} (h : off = ![r.val, k.val]) (inb : ∀ a, off a + S1x1.size a ≤ S2x6.size a) (j : S1x1.Idx) :
    View.readAt (Elt F) arg0.view (Rect.unit (s := S2x6) off S1x1.size inb).toLoadRect (harg0.unread e) j = e (ix2 r k) := by
  subst h
  rw [View.readAt_eq_ld, harg0.read_unread]
  show e ((Rect.unit (s := S2x6) ![r.val, k.val] S1x1.size inb).emb j) = _
  congr 1
  have h0 : (j 0 : Nat) < 1 := (j 0).isLt
  have h1 : (j 1 : Nat) < 1 := (j 1).isLt
  funext a
  apply Fin.ext
  rw [Rect.emb_apply, Rect.off_unit, Rect.stride_unit]
  fin_cases a
  · show r.val + 1 * (j 0 : Nat) = r.val
    omega
  · show k.val + 1 * (j 1 : Nat) = k.val
    omega

/-- A load of a whole scratch array that one copy filled reads what was copied. -/
theorem copied {sp : Space} {S : Shape} {ty : EltTy} (v : View sig .tc sp S ty) (w : S.Idx → Elt F ty) {off : Fin S.rank → Nat}
    (h : off = fun _ => 0) (inb : ∀ a, off a + S.size a ≤ S.size a) :
    v.readCov [(⟨Rect.whole S, w⟩ : View.Piece (Elt F) S ty)] (Rect.unit off S.size inb).toLoadRect = w := by
  subst h
  exact View.readCov_cons_toLoadRect v (Rect.whole S) w []

set_option maxHeartbeats 1000000 in
theorem out_eq (c : Dev nD) (arg0 : Memref sig .tc .smem S2x6 .i32) (harg0 : arg0.IsWhole) (arg1 : Memref sig .tc .vmem S3x512 .f32) (harg1 : arg1.IsWhole) (arg2 : Memref sig .tc .vmem S256x512 .f32) (harg2 : arg2.IsWhole) (arg3 : Memref sig .tc .vmem S256x512 .f32) (harg3 : arg3.IsWhole) (arg9 : Memref sig .tc .vmem S128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S128x192 .f32) (harg14 : arg14.IsWhole)
    (x0 : Vec F S2x6 .i32) (x1 : Vec F S3x512 .f32) (x2 : Vec F S256x512 .f32) (x3 : Vec F S256x512 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
    out0_A_4 c arg0 harg0 arg1 harg1 arg2 harg2 arg3 harg3 arg9 harg9 arg10 harg10 arg11 harg11 arg12 harg12 arg13 harg13 arg14 harg14 x0 x1 x2 x3 fh0 fh1 fh2 fh3 fh4 =
      fused x0 x1 x2 x3 fh0 fh1 fh2 fh3 fh4 := by
  unfold out0_A_4
  rw [View.read_writes_eq_canon _ _ _ (fun y => cover0_A_4 (y := y) ..)]
  unfold kernelRun0_A
  dsimp only
  sl_unfold_words
  rw [View.canon_unit_zero off1]
  unfold fused fusedRow scale2 adj
  simp only [edge_word x0 arg0 harg0 0 0 (off := ![0, 0]) rfl, edge_word x0 arg0 harg0 1 0 (off := ![1, 0]) rfl,
    edge_word x0 arg0 harg0 0 1 (off := ![0, 1]) rfl, edge_word x0 arg0 harg0 1 1 (off := ![1, 1]) rfl,
    edge_word x0 arg0 harg0 0 2 (off := ![0, 2]) rfl, edge_word x0 arg0 harg0 1 2 (off := ![1, 2]) rfl,
    edge_word x0 arg0 harg0 0 3 (off := ![0, 3]) rfl, edge_word x0 arg0 harg0 1 3 (off := ![1, 3]) rfl,
    edge_word x0 arg0 harg0 0 4 (off := ![0, 4]) rfl, edge_word x0 arg0 harg0 1 4 (off := ![1, 4]) rfl,
    edge_word x0 arg0 harg0 0 5 (off := ![0, 5]) rfl, edge_word x0 arg0 harg0 1 5 (off := ![1, 5]) rfl]
  simp only [View.readAt_eq_ld, harg1.read_unread, harg2.read_unread, harg3.read_unread, View.ld_unit_zero (S := S3x512) off2,
    View.ld_unit_zero (S := S256x512) off2, copied (S := S128x256) _ _ off2, copied (S := S64x128) _ _ off2, copied (S := S128x192) _ _ off2]
  rfl

variable (m : (ℓ : Loc nD τ sig) → Buf (Elt F) ℓ) (ρ : Dev nD → PrngReg)

/-- The result as contents of the result array: the block's result on the launch contents of the nine arrays it reads. -/
abbrev result (c : Dev nD) : Buf (Elt F) ((c : Thread nD τ).loc main_v0) :=
  fused (m ((c : Thread nD τ).loc main_arg1)) (m ((c : Thread nD τ).loc main_arg0)) (m ((c : Thread nD τ).loc main_arg2))
    (m ((c : Thread nD τ).loc main_arg4)) (m ((c : Thread nD τ).loc main_arg5)) (m ((c : Thread nD τ).loc main_arg7))
    (m ((c : Thread nD τ).loc main_arg8)) (m ((c : Thread nD τ).loc main_arg10)) (m ((c : Thread nD τ).loc main_arg11))

/-- The first input block is the whole edge array. -/
theorem iblk0 (c : Dev nD) : iblk m c 0 t0_0 = m ((c : Thread nD τ).loc main_arg1) := by
  have hz' : (fun a => win0_0.index t0_0 a * main_arg1.ty.shape.size a) = fun _ => 0 := funext fun a => by fin_cases a <;> decide
  exact Memref.read_access_unit_zero (Elt F) main_arg1 hz' (fun a => by rw [congrFun hz' a]; simp) (V m c main_arg1)

/-- The second input block is the whole array of features. -/
theorem iblk1 (c : Dev nD) : iblk m c 1 t0_0 = m ((c : Thread nD τ).loc main_arg0) := by
  have hz' : (fun a => win0_1.index t0_0 a * main_arg0.ty.shape.size a) = fun _ => 0 := funext fun a => by fin_cases a <;> decide
  exact Memref.read_access_unit_zero (Elt F) main_arg0 hz' (fun a => by rw [congrFun hz' a]; simp) (V m c main_arg0)

/-- The third input block is the whole left weight of the first layer. -/
theorem iblk2 (c : Dev nD) : iblk m c 2 t0_0 = m ((c : Thread nD τ).loc main_arg2) := by
  have hz' : (fun a => win0_2.index t0_0 a * main_arg2.ty.shape.size a) = fun _ => 0 := funext fun a => by fin_cases a <;> decide
  exact Memref.read_access_unit_zero (Elt F) main_arg2 hz' (fun a => by rw [congrFun hz' a]; simp) (V m c main_arg2)

/-- The fourth input block is the whole root weight of the first layer. -/
theorem iblk3 (c : Dev nD) : iblk m c 3 t0_0 = m ((c : Thread nD τ).loc main_arg4) := by
  have hz' : (fun a => win0_3.index t0_0 a * main_arg4.ty.shape.size a) = fun _ => 0 := funext fun a => by fin_cases a <;> decide
  exact Memref.read_access_unit_zero (Elt F) main_arg4 hz' (fun a => by rw [congrFun hz' a]; simp) (V m c main_arg4)

/-- The one write-back writes the whole result. -/
theorem flushed_eq (c : Dev nD) (t : Fin cfg0.N) (hf : (cfg0.win 4).flush t = true) :
    (Gen.dats m 0 c).flushed 4 t = ((cfg0.win 4).blk t).view.read (Elt F) (result m c) := by
  obtain rfl : t = t0_0 := fin_N0 t
  rw [Value.flushed4_A, out_eq, iblk0, iblk1, iblk2, iblk3]
  have hz' : (fun a => win0_4.index t0_0 a * main_v0.ty.shape.size a) = fun _ => 0 := funext fun a => by fin_cases a <;> decide
  exact (Memref.read_access_unit_zero (Elt F) main_v0 hz' (fun a => by rw [congrFun hz' a]; simp) (result m c)).symm

/-- So the result array ends holding the result. -/
theorem final (c : Dev nD) : (Gen.dats m 0 c).arrAt 4 cfg0.N = result m c :=
  (Gen.dats m 0 c).arrAt_eq_of_cover 4 (result m c) (flushed_eq m c) fun i =>
    ⟨t0_0, flush0_4 t0_0, by
      show i ∈ ((View.whole main_v0).slice (win0_4.rect t0_0)).set
      rw [View.set_slice_whole, Rect.mem_set_unit]
      intro a
      have h0 : (i 0 : Nat) < 128 := (i 0).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 128 from by decide +kernel]; omega⟩

end Cert.KernelIdeal.Hand

end
-- ==== Proof.Extended.lean ====
/-
  Facts about sums and products of extended reals, and the relation in which the two forms of the first layer stand.
-/
module

public import Idealize.ShloMosaic.PureOps.Ideal
public import Mathlib.Data.EReal.Inv

@[expose] public section

noncomputable section

namespace Cert.Sage

open Idealize.ShloMosaic

/-- A nonnegative real factor goes into a finite sum of extended reals from the left. -/
theorem coe_mul_sum {ι : Type} (s : Finset ι) (f : ι → EReal) (c : ℝ) (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A nonnegative real factor goes into a finite sum of extended reals from the right. -/
theorem sum_mul_coe {ι : Type} (s : Finset ι) (f : ι → EReal) (c : ℝ) (hc : 0 ≤ c) :
    (∑ k ∈ s, f k) * (c : EReal) = ∑ k ∈ s, f k * (c : EReal) := by
  rw [mul_comm, coe_mul_sum s f c hc]
  exact Finset.sum_congr rfl fun k _ => mul_comm _ _

/-- Any factor goes into a finite sum of nonnegative extended reals. -/
theorem nonneg_sum_mul {ι : Type} (s : Finset ι) (f : ι → EReal) (hf : ∀ k ∈ s, 0 ≤ f k) (w : EReal) :
    (∑ k ∈ s, f k) * w = ∑ k ∈ s, f k * w := by
  classical
  induction s using Finset.induction_on with
  | empty => simp
  | insert a s ha ih =>
    have hs : ∀ k ∈ s, 0 ≤ f k := fun k hk => hf k (Finset.mem_insert_of_mem hk)
    rw [Finset.sum_insert ha, Finset.sum_insert ha,
      EReal.right_distrib_of_nonneg (hf a (Finset.mem_insert_self a s)) (Finset.sum_nonneg hs), ih hs]

/-! ### Equal, or both infinite -/

/-- The value is one of the two infinities. -/
def Infinite (a : EReal) : Prop := a = ⊤ ∨ a = ⊥

/-- The two values are equal, or both are infinite. -/
def Near (a b : EReal) : Prop := a = b ∨ (Infinite a ∧ Infinite b)

/-- Equal values are equal or both infinite. -/
theorem Near.of_eq {a b : EReal} (h : a = b) : Near a b := Or.inl h

/-- A sum with an infinite term is infinite. -/
theorem Infinite.add {a : EReal} (b : EReal) (h : Infinite a) : Infinite (a + b) := by
  rcases h with rfl | rfl
  · induction b with
    | bot => right; simp
    | coe x => left; simp
    | top => left; simp
  · right; simp

/-- Sums of near values are near. -/
theorem Near.add {a b c d : EReal} (h : Near a b) (h' : Near c d) : Near (a + c) (b + d) := by
  rcases h with rfl | ⟨ha, hb⟩
  · rcases h' with rfl | ⟨hc, hd⟩
    · exact Or.inl rfl
    · right
      rw [add_comm a c, add_comm a d]
      exact ⟨hc.add a, hd.add a⟩
  · exact Or.inr ⟨ha.add c, hb.add d⟩

/-- Finite sums of near values are near. -/
theorem Near.sum {ι : Type} (s : Finset ι) (f g : ι → EReal) (h : ∀ k ∈ s, Near (f k) (g k)) :
    Near (∑ k ∈ s, f k) (∑ k ∈ s, g k) := by
  classical
  induction s using Finset.induction_on with
  | empty => exact Or.inl rfl
  | insert a s ha ih =>
    rw [Finset.sum_insert ha, Finset.sum_insert ha]
    exact (h a (Finset.mem_insert_self a s)).add (ih fun k hk => h k (Finset.mem_insert_of_mem hk))

/-- The square of an infinite value is `⊤`. -/
theorem Infinite.mul_self {a : EReal} (h : Infinite a) : a * a = ⊤ := by
  rcases h with rfl | rfl <;> rfl

/-- Near values have the same square. -/
theorem Near.mul_self {a b : EReal} (h : Near a b) : a * a = b * b := by
  rcases h with rfl | ⟨ha, hb⟩
  · rfl
  · rw [ha.mul_self, hb.mul_self]

/-- An infinite value times a real other than zero is infinite. -/
theorem Infinite.mul_coe {a : EReal} (h : Infinite a) (w : ℝ) (hw : w ≠ 0) : Infinite (a * (w : EReal)) := by
  rcases lt_or_gt_of_ne hw with hw | hw <;> rcases h with rfl | rfl
  · right; exact EReal.top_mul_coe_of_neg hw
  · left; exact EReal.bot_mul_coe_of_neg hw
  · left; exact EReal.top_mul_coe_of_pos hw
  · right; exact EReal.bot_mul_coe_of_pos hw

/-- A real factor goes into a sum of two extended reals, up to two infinities of opposite sign. -/
theorem near_add_mul (a b : EReal) (w : ℝ) : Near ((a + b) * (w : EReal)) (a * (w : EReal) + b * (w : EReal)) := by
  by_cases hw : w = 0
  · subst hw; left; simp
  by_cases ha : Infinite a
  · exact Or.inr ⟨(ha.add b).mul_coe w hw, (ha.mul_coe w hw).add _⟩
  by_cases hb : Infinite b
  · right
    rw [add_comm a b, add_comm (a * _)]
    exact ⟨(hb.add a).mul_coe w hw, (hb.mul_coe w hw).add _⟩
  · left
    have ha' : ((a.toReal : ℝ) : EReal) = a := EReal.coe_toReal (fun h => ha (Or.inl h)) (fun h => ha (Or.inr h))
    have hb' : ((b.toReal : ℝ) : EReal) = b := EReal.coe_toReal (fun h => hb (Or.inl h)) (fun h => hb (Or.inr h))
    rw [← ha', ← hb']
    norm_cast
    ring

/-- A real factor goes into a finite sum of extended reals, up to infinities of opposite sign. -/
theorem near_sum_mul {ι : Type} (s : Finset ι) (f : ι → EReal) (w : ℝ) :
    Near ((∑ k ∈ s, f k) * (w : EReal)) (∑ k ∈ s, f k * (w : EReal)) := by
  classical
  induction s using Finset.induction_on with
  | empty => left; simp
  | insert a s ha ih =>
    rw [Finset.sum_insert ha, Finset.sum_insert ha]
    have h := near_add_mul (f a) (∑ k ∈ s, f k) w
    have h' : Near (f a * (w : EReal) + (∑ k ∈ s, f k) * (w : EReal)) (f a * (w : EReal) + ∑ k ∈ s, f k * (w : EReal)) :=
      (Near.of_eq rfl).add ih
    rcases h with h | ⟨h1, h2⟩
    · rw [h]; exact h'
    · rcases h' with h' | ⟨h3, h4⟩
      · rw [← h']; exact Or.inr ⟨h1, h2⟩
      · exact Or.inr ⟨h1, h4⟩

/-- The larger of two reals, as an extended real. -/
theorem coe_max (a b : ℝ) : ((max a b : ℝ) : EReal) = max (a : EReal) (b : EReal) :=
  EReal.coe_strictMono.monotone.map_max

/-! ### The divisor and its reciprocal root -/

/-- The reference's divisor `max (√S) ε` and the kernel's factor `1 / √(max S ε²)` of a sum of squares `S`: after the
    division (or the product) and the positive part the same value, provided that the two numerators are near and agree
    with `S` where it is finite; and the factor is a nonnegative real. -/
theorem normalize {S : EReal} (hS : 0 ≤ S) (ε : ℝ) (hε : 0 < ε) :
    ∃ δ : ℝ, 0 ≤ δ ∧ Ideal.rsqrt (max S ((ε * ε : ℝ) : EReal)) = (δ : EReal) ∧
      ∀ a b : EReal, Near a b → b * b ≤ S →
        max (Ideal.div a (max (Ideal.sqrt S) (ε : EReal))) 0 = max b 0 * (δ : EReal) := by
  induction S with
  | bot => simp at hS
  | top =>
    refine ⟨0, le_rfl, ?_, fun a b _ _ => ?_⟩
    · rw [max_eq_left le_top]; rfl
    · rw [show Ideal.sqrt (⊤ : EReal) = ⊤ from rfl, max_eq_left le_top]
      simp [Ideal.div]
  | coe t =>
    have ht : 0 ≤ t := by exact_mod_cast hS
    have hM : 0 < max (Real.sqrt t) ε := lt_max_of_lt_right hε
    have hroot : Real.sqrt (max t (ε * ε)) = max (Real.sqrt t) ε := by
      rcases le_total t (ε * ε) with h | h
      · rw [max_eq_right h, Real.sqrt_mul_self hε.le, max_eq_right (Real.sqrt_le_iff.mpr ⟨hε.le, by rwa [pow_two]⟩)]
      · rw [max_eq_left h, max_eq_left (Real.le_sqrt_of_sq_le (by rwa [pow_two]))]
    have hpos : 0 < max t (ε * ε) := lt_max_of_lt_right (mul_pos hε hε)
    refine ⟨(max (Real.sqrt t) ε)⁻¹, (inv_pos.mpr hM).le, ?_, fun a b hab hb => ?_⟩
    · rw [← coe_max]
      show (if max t (ε * ε) < 0 then ⊥ else if max t (ε * ε) = 0 then ⊤ else (((Real.sqrt (max t (ε * ε)))⁻¹ : ℝ) : EReal)) = _
      rw [if_neg hpos.le.not_gt, if_neg hpos.ne', hroot]
    · have hfin : ¬ Infinite b := fun h => by
        rw [h.mul_self] at hb
        exact absurd hb (not_le.mpr (EReal.coe_lt_top t))
      have hab' : a = b := hab.resolve_right fun h => hfin h.2
      subst hab'
      have ha : ((a.toReal : ℝ) : EReal) = a := EReal.coe_toReal (fun h => hfin (Or.inl h)) (fun h => hfin (Or.inr h))
      have hs : Ideal.sqrt (t : EReal) = (Real.sqrt t : EReal) := by
        show (if t < 0 then ⊥ else (Real.sqrt t : EReal)) = _
        rw [if_neg ht.not_gt]
      rw [hs, ← coe_max, Ideal.div_coe hM.ne', ← ha, one_div, ← EReal.coe_mul, ← EReal.coe_zero, ← coe_max,
        ← coe_max, ← EReal.coe_mul, max_mul_of_nonneg _ _ (inv_pos.mpr hM).le, zero_mul]

end Cert.Sage

end
-- ==== Proof.Layers.lean ====
/-
  The three layers as functions of finite index sets over the extended reals, in the two forms that the kernel and the
  reference compute them, and their equality.

  An edge list over three nodes is a pair of functions `s d : Fin 6 → Fin 3`, the source and the destination of each edge.
  The kernel keeps a layer's activations as a pair: `r`, the positive part before the row is divided by its norm, and `δ`,
  one factor per row. The reference keeps the quotients.
-/
module

public import proofs.«01_k».proof.Proof.Extended

@[expose] public section

noncomputable section

namespace Cert.Sage

open Idealize.ShloMosaic

/-! ### The two forms -/

/-- How many of the six edges go from node `j` to node `i`. -/
def count (s d : Fin 6 → Fin 3) (i j : Fin 3) : EReal := ∑ e : Fin 6, if d e = i ∧ s e = j then 1 else 0

/-- How many of the six edges end in node `i`. -/
def degree (d : Fin 6 → Fin 3) (i : Fin 3) : EReal := ∑ e : Fin 6, if d e = i then 1 else 0

/-- The kernel's matrix of the mean over the incoming edges: the count over the larger of its row sum and one. -/
def weight (s d : Fin 6 → Fin 3) (i j : Fin 3) : EReal :=
  Ideal.div (count s d i j) (max (∑ l, count s d i l) 1)

/-- The reference's mean over the incoming edges: the sum of the sources' rows over the larger of the degree and one. -/
def mean {K : ℕ} (s d : Fin 6 → Fin 3) (h : Fin 3 → Fin K → EReal) (i : Fin 3) (k : Fin K) : EReal :=
  Ideal.div (∑ e : Fin 6, if d e = i then h (s e) k else 0) (max (degree d i) 1)

/-- A layer of the reference before its norm, without a bias: the mean's and the node's own linear image. -/
def refRaw {K N : ℕ} (s d : Fin 6 → Fin 3) (h : Fin 3 → Fin K → EReal) (Wl Wr : Fin N → Fin K → EReal) (i : Fin 3) (j : Fin N) : EReal :=
  (∑ k, mean s d h i k * Wl j k) + ∑ k, h i k * Wr j k

/-- A layer of the reference: each row over the larger of its norm and `ε`, then the positive part. -/
def refAct {N : ℕ} (ε : EReal) (out : Fin 3 → Fin N → EReal) (i : Fin 3) (j : Fin N) : EReal :=
  max (Ideal.div (out i j) (max (Ideal.sqrt (∑ l, out i l * out i l)) ε)) 0

/-- The kernel's first layer before its norm: the linear images are taken first, their mean after. -/
def kerRaw1 {K N : ℕ} (a : Fin 3 → Fin 3 → EReal) (x : Fin 3 → Fin K → EReal) (Wl Wr : Fin N → Fin K → EReal) (i : Fin 3) (j : Fin N) : EReal :=
  a i 0 * (∑ k, x 0 k * Wl j k) + a i 1 * (∑ k, x 1 k * Wl j k) + a i 2 * (∑ k, x 2 k * Wl j k) + ∑ k, x i k * Wr j k

/-- The kernel's later layers before their norm: the factors `δ` of the layer before are multiplied in after the product. -/
def kerRaw {K N : ℕ} (a : Fin 3 → Fin 3 → EReal) (δ : Fin 3 → EReal) (r : Fin 3 → Fin K → EReal) (Wl Wr : Fin N → Fin K → EReal) (i : Fin 3) (j : Fin N) : EReal :=
  a i 0 * δ 0 * (∑ k, r 0 k * Wl j k) + a i 1 * δ 1 * (∑ k, r 1 k * Wl j k) + a i 2 * δ 2 * (∑ k, r 2 k * Wl j k)
    + δ i * ∑ k, r i k * Wr j k

/-- The kernel's factor of a row: one over the root of the larger of the sum of squares and `η`. -/
def kerScale {N : ℕ} (η : EReal) (raw : Fin 3 → Fin N → EReal) (i : Fin 3) : EReal :=
  Ideal.rsqrt (max (∑ l, raw i l * raw i l) η)

/-- The kernel's activations before the factor: the positive part. -/
def kerAct {N : ℕ} (raw : Fin 3 → Fin N → EReal) (i : Fin 3) (j : Fin N) : EReal := max (raw i j) 0

/-! ### The mean as a matrix of nonnegative reals -/

/-- The number of indices of a finite type with a property, as a sum of ones and zeros, is a natural number. -/
theorem sum_ones {ι : Type} (S : Finset ι) (p : ι → Prop) [DecidablePred p] :
    (∑ e ∈ S, if p e then (1 : EReal) else 0) = (((S.filter p).card : ℝ) : EReal) := by
  rw [← Finset.sum_filter]
  simp

/-- The destinations' degree is the row sum of the counts: every edge has one source. -/
theorem degree_eq (s d : Fin 6 → Fin 3) (i : Fin 3) : ∑ l, count s d i l = degree d i := by
  unfold count degree
  rw [Finset.sum_comm]
  refine Finset.sum_congr rfl fun e _ => ?_
  by_cases h : d e = i <;> simp [h]

/-- The reciprocal of the larger of the degree and one. -/
def recip (d : Fin 6 → Fin 3) (i : Fin 3) : ℝ := 1 / max ((Finset.univ.filter fun e => d e = i).card : ℝ) 1

/-- The reciprocal of the degree is not negative. -/
theorem recip_nonneg (d : Fin 6 → Fin 3) (i : Fin 3) : 0 ≤ recip d i := by unfold recip; positivity

/-- Dividing by the larger of the degree and one is multiplying by a nonnegative real. -/
theorem div_degree (d : Fin 6 → Fin 3) (i : Fin 3) (y : EReal) : Ideal.div y (max (degree d i) 1) = y * (recip d i : EReal) := by
  unfold degree recip
  rw [sum_ones, ← EReal.coe_one, ← coe_max, Ideal.div_coe (lt_max_of_lt_right one_pos).ne']

/-- The kernel's weights are nonnegative reals. -/
theorem weight_eq (s d : Fin 6 → Fin 3) (i j : Fin 3) : ∃ α : ℝ, 0 ≤ α ∧ weight s d i j = (α : EReal) :=
  ⟨((Finset.univ.filter fun e => d e = i ∧ s e = j).card : ℝ) * recip d i, mul_nonneg (Nat.cast_nonneg _) (recip_nonneg d i), by
    unfold weight; rw [degree_eq, div_degree, EReal.coe_mul]; unfold count; rw [sum_ones]⟩

/-- The reference's mean is the kernel's weights applied to the rows. -/
theorem mean_eq {K : ℕ} (s d : Fin 6 → Fin 3) (h : Fin 3 → Fin K → EReal) (i : Fin 3) (k : Fin K) :
    mean s d h i k = ∑ l, weight s d i l * h l k := by
  unfold mean
  have hw : ∀ l, weight s d i l * h l k = (count s d i l * h l k) * (recip d i : EReal) := fun l => by
    unfold weight; rw [degree_eq, div_degree, mul_right_comm]
  rw [div_degree, Finset.sum_congr rfl fun l _ => hw l, ← sum_mul_coe _ _ _ (recip_nonneg d i)]
  congr 1
  have hc : ∀ l, count s d i l * h l k = ∑ e : Fin 6, if d e = i ∧ s e = l then h l k else 0 := fun l => by
    unfold count
    rw [nonneg_sum_mul _ _ fun e _ => by split <;> simp]
    exact Finset.sum_congr rfl fun e _ => by split <;> simp
  rw [Finset.sum_congr rfl fun l _ => hc l, Finset.sum_comm]
  refine Finset.sum_congr rfl fun e _ => ?_
  by_cases hd : d e = i <;> simp [hd]

/-! ### A layer -/

/-- First layer: with finite left weights, the two forms before the norm are near. -/
theorem near_layer1 {K N : ℕ} (s d : Fin 6 → Fin 3) (x : Fin 3 → Fin K → EReal) (Wl Wr : Fin N → Fin K → EReal)
    (hW : ∀ j k, ∃ w : ℝ, Wl j k = (w : EReal)) (i : Fin 3) (j : Fin N) :
    Near (refRaw s d x Wl Wr i j) (kerRaw1 (weight s d) x Wl Wr i j) := by
  have hk : kerRaw1 (weight s d) x Wl Wr i j
      = (∑ k, ∑ l, weight s d i l * x l k * Wl j k) + ∑ k, x i k * Wr j k := by
    unfold kerRaw1
    rw [Finset.sum_comm]
    have : ∀ l, weight s d i l * (∑ k, x l k * Wl j k) = ∑ k, weight s d i l * x l k * Wl j k := fun l => by
      obtain ⟨α, hα, he⟩ := weight_eq s d i l
      rw [he, coe_mul_sum _ _ _ hα]
      exact Finset.sum_congr rfl fun k _ => (mul_assoc _ _ _).symm
    rw [this, this, this, Fin.sum_univ_three]
  rw [hk]
  unfold refRaw
  refine Near.add (Near.sum _ _ _ fun k _ => ?_) (Near.of_eq rfl)
  obtain ⟨w, hw⟩ := hW j k
  rw [mean_eq, hw]
  exact near_sum_mul _ _ w

/-- Later layers: where the activations are the kernel's pair multiplied out, the two forms before the norm are equal. -/
theorem layer_eq {K N : ℕ} (s d : Fin 6 → Fin 3) (h r : Fin 3 → Fin K → EReal) (δ : Fin 3 → EReal) (Wl Wr : Fin N → Fin K → EReal)
    (hr : ∀ i k, 0 ≤ r i k) (hδ : ∀ i, ∃ t : ℝ, 0 ≤ t ∧ δ i = (t : EReal)) (hh : ∀ i k, h i k = r i k * δ i) (i : Fin 3) (j : Fin N) :
    refRaw s d h Wl Wr i j = kerRaw (weight s d) δ r Wl Wr i j := by
  unfold refRaw kerRaw
  have h1 : ∑ k, h i k * Wr j k = δ i * ∑ k, r i k * Wr j k := by
    obtain ⟨t, ht, he⟩ := hδ i
    rw [he, coe_mul_sum _ _ _ ht]
    exact Finset.sum_congr rfl fun k _ => by rw [hh, he, mul_comm (r i k), mul_assoc]
  have h2 : ∑ k, mean s d h i k * Wl j k = ∑ l, weight s d i l * δ l * ∑ k, r l k * Wl j k := by
    have hm : ∀ k, mean s d h i k * Wl j k = ∑ l, weight s d i l * δ l * (r l k * Wl j k) := fun k => by
      rw [mean_eq, nonneg_sum_mul]
      · exact Finset.sum_congr rfl fun l _ => by rw [hh]; ac_rfl
      · intro l _
        obtain ⟨α, hα, he⟩ := weight_eq s d i l
        obtain ⟨t, ht, he'⟩ := hδ l
        rw [he, hh, he']
        exact mul_nonneg (by exact_mod_cast hα) (mul_nonneg (hr l k) (by exact_mod_cast ht))
    rw [Finset.sum_congr rfl fun k _ => hm k, Finset.sum_comm]
    refine Finset.sum_congr rfl fun l _ => ?_
    obtain ⟨α, hα, he⟩ := weight_eq s d i l
    obtain ⟨t, ht, he'⟩ := hδ l
    rw [he, he', ← EReal.coe_mul, coe_mul_sum _ _ _ (mul_nonneg hα ht)]
  rw [h1, h2, Fin.sum_univ_three]

/-- After the norm: where the two forms before it are near, the reference's activations are the kernel's pair multiplied
    out, and the pair is again a nonnegative value and a nonnegative real factor. -/
theorem act_eq {N : ℕ} (ε : ℝ) (hε : 0 < ε) (out raw : Fin 3 → Fin N → EReal) (h : ∀ i j, Near (out i j) (raw i j)) :
    (∀ i, ∃ t : ℝ, 0 ≤ t ∧ kerScale ((ε * ε : ℝ) : EReal) raw i = (t : EReal)) ∧
      ∀ i j, refAct (ε : EReal) out i j = kerAct raw i j * kerScale ((ε * ε : ℝ) : EReal) raw i := by
  have hsq : ∀ a : EReal, 0 ≤ a * a := fun a => by
    rcases le_total 0 a with ha | ha
    · exact mul_nonneg ha ha
    · rw [← neg_mul_neg]; exact mul_nonneg (EReal.neg_nonneg.mpr ha) (EReal.neg_nonneg.mpr ha)
  have key := fun i => normalize (S := ∑ l, raw i l * raw i l) (Finset.sum_nonneg fun l _ => hsq _) ε hε
  refine ⟨fun i => ?_, fun i j => ?_⟩
  · obtain ⟨t, ht, he, -⟩ := key i
    exact ⟨t, ht, he⟩
  · obtain ⟨t, ht, he, hq⟩ := key i
    unfold refAct kerAct kerScale
    rw [he, show (∑ l, out i l * out i l) = ∑ l, raw i l * raw i l from Finset.sum_congr rfl fun l _ => (h i l).mul_self]
    exact hq _ _ (h i j) (Finset.single_le_sum (f := fun l => raw i l * raw i l) (fun l _ => hsq _) (Finset.mem_univ j))

/-! ### The three layers, the last product and the softmax -/

/-- The reference's activations after three layers. -/
def refNet (ε : EReal) (s d : Fin 6 → Fin 3) (x : Fin 3 → Fin 512 → EReal) (W1l W1r : Fin 256 → Fin 512 → EReal)
    (W2l W2r : Fin 128 → Fin 256 → EReal) (W3l W3r : Fin 64 → Fin 128 → EReal) : Fin 3 → Fin 64 → EReal :=
  refAct ε (refRaw s d (refAct ε (refRaw s d (refAct ε (refRaw s d x W1l W1r)) W2l W2r)) W3l W3r)

/-- The kernel's second layer before its norm, from its first layer before its norm. -/
def kerNext {K N : ℕ} (η : EReal) (a : Fin 3 → Fin 3 → EReal) (raw : Fin 3 → Fin K → EReal) (Wl Wr : Fin N → Fin K → EReal) : Fin 3 → Fin N → EReal :=
  kerRaw a (kerScale η raw) (kerAct raw) Wl Wr

/-- The kernel's activations after three layers: the positive part of the last layer times its factors. -/
def kerNet (η : EReal) (a : Fin 3 → Fin 3 → EReal) (x : Fin 3 → Fin 512 → EReal) (W1l W1r : Fin 256 → Fin 512 → EReal)
    (W2l W2r : Fin 128 → Fin 256 → EReal) (W3l W3r : Fin 64 → Fin 128 → EReal) (i : Fin 3) (j : Fin 64) : EReal :=
  kerAct (kerNext η a (kerNext η a (kerRaw1 a x W1l W1r) W2l W2r) W3l W3r) i j
    * kerScale η (kerNext η a (kerNext η a (kerRaw1 a x W1l W1r) W2l W2r) W3l W3r) i

/-- THE EQUATION: with a finite left weight in the first layer, both forms end in the same activations. -/
theorem net_eq (ε : ℝ) (hε : 0 < ε) (s d : Fin 6 → Fin 3) (x : Fin 3 → Fin 512 → EReal) (W1l W1r : Fin 256 → Fin 512 → EReal)
    (W2l W2r : Fin 128 → Fin 256 → EReal) (W3l W3r : Fin 64 → Fin 128 → EReal)
    (hW : ∀ j k, ∃ w : ℝ, W1l j k = (w : EReal)) (i : Fin 3) (j : Fin 64) :
    refNet (ε : EReal) s d x W1l W1r W2l W2r W3l W3r i j
      = kerNet ((ε * ε : ℝ) : EReal) (weight s d) x W1l W1r W2l W2r W3l W3r i j := by
  have step : ∀ {K N : ℕ} (out raw : Fin 3 → Fin K → EReal) (Wl Wr : Fin N → Fin K → EReal), (∀ i j, Near (out i j) (raw i j)) →
      ∀ i j, Near (refRaw s d (refAct (ε : EReal) out) Wl Wr i j) (kerNext ((ε * ε : ℝ) : EReal) (weight s d) raw Wl Wr i j) :=
    fun out raw Wl Wr h i j => Near.of_eq
      (layer_eq s d _ (kerAct raw) _ Wl Wr (fun _ _ => le_max_right _ _) (act_eq ε hε out raw h).1 (act_eq ε hε out raw h).2 i j)
  exact (act_eq ε hε _ _ (step _ _ W3l W3r (step _ _ W2l W2r fun i j => near_layer1 s d x W1l W1r hW i j))).2 i j

/-- The softmax of 128 logits: the exponentials of the differences from the largest, over their sum. -/
def softmax (z : Fin 128 → EReal) (o : Fin 128) : EReal :=
  Ideal.div (Ideal.exp (z o - Finset.univ.fold max ⊥ z)) (∑ l, Ideal.exp (z l - Finset.univ.fold max ⊥ z))

/-- The logits: the last weights applied to the three rows of activations laid end to end. -/
def logits (h : Fin 3 → Fin 64 → EReal) (Wfc : Fin 128 → Fin 192 → EReal) (o : Fin 128) : EReal :=
  ∑ k : Fin 192, h ⟨k.val / 64, by have := k.isLt; omega⟩ ⟨k.val % 64, Nat.mod_lt _ (by decide)⟩ * Wfc o k

end Cert.Sage

end
-- ==== Proof.Consts.lean ====
/-
  The constants the two programs hold, as extended reals, and arrays of rows as functions of row and column.
-/
module

public import Idealize.ShloMosaic.Lib.Pointwise
public import proofs.«01_k».proof.Proof.Gen.KernelIdeal.Value

@[expose] public section

noncomputable section

open Idealize.ShloMosaic

namespace Cert.Sage

/-- The reference's floor under each row norm, as the exact rational its word stands for. -/
abbrev floor : ℝ := 2305843 / 2305843009213693952

/-- The floor is positive. -/
theorem floor_pos : 0 < floor := by norm_num [floor]

/-- The reference's floor word reads as that rational. -/
theorem ofBits_floor : Ideal.ofBits .f32 0x2B8CBCCC#32 = (floor : EReal) := by
  simp [Ideal.ofBits, Ideal.ieee, -EReal.coe_mul]
  norm_num [floor]

/-- The word of zero. -/
theorem ofBits_zero : Ideal.ofBits .f32 0x00000000#32 = 0 := by simp [Ideal.ofBits, Ideal.ieee]

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The kernel's named floor under each squared row norm is the square of the reference's floor. -/
theorem named_floor :
    Named.named (F := Ideal) Cert.KernelIdeal.κ "floor_sq" (φ := .f32) 0x179ABE15#32 = ((floor * floor : ℝ) : EReal) := by
  have h : Named.named (F := Ideal) Cert.KernelIdeal.κ "floor_sq" (φ := .f32) 0x179ABE15#32
      = ((5316911940649 / 5316911983139663491615228241121378304 : ℝ) : EReal) :=
    IdealRules.named_const.ideal_named_scalar _ _ _ _ rfl
  rw [h]
  congr 1
  norm_num [floor]

/-- An array of rows as a function of row and column. -/
abbrev mat {a b : ℕ} (v : (⟨2, ![a, b]⟩ : Shape).Idx → EReal) : Fin a → Fin b → EReal := fun i k => v (ix2 i k)

/-- The kernel's floor under each squared row norm. -/
abbrev η : EReal := ((floor * floor : ℝ) : EReal)

end Cert.Sage

end
-- ==== Proof.KernelRead.lean ====
/-
  What the block computes over the extended reals, read entry by entry: each layer is the kernel's form of the layer
  (`Layers.lean`), and the result is the softmax of the logits of the last one.
-/
module

public import proofs.«01_k».proof.Proof.Block
public import proofs.«01_k».proof.Proof.Layers
public import proofs.«01_k».proof.Proof.Consts
public import Idealize.ShloMosaic.Lib.Pointwise

@[expose] public section

noncomputable section

open Idealize.ShloMosaic

namespace Cert.KernelIdeal.Hand

open Cert.KernelIdeal Cert.KernelIdeal.Gen Cert.Sage

variable (A : FVec Ideal S3x3 .f32) (x : Vec Ideal S3x512 .f32) (W1l W1r : Vec Ideal S256x512 .f32) (W2l W2r : Vec Ideal S128x256 .f32)
  (W3l W3r : Vec Ideal S64x128 .f32) (Wfc : Vec Ideal S128x192 .f32)

/-! ### First layer -/

/-- The first layer before its norm. -/
abbrev raw1 : Fin 3 → Fin 256 → EReal := kerRaw1 (mat A) (mat x) (mat W1l) (mat W1r)

/-- The first layer before its norm: the weighted sum of the three product rows plus the root product. -/
theorem pay5_apply (i : Fin 3) (j : Fin 256) : k0_pay5 A x W1l W1r (ix2 i j) = raw1 A x W1l W1r i j := by
  unfold k0_pay5 raw1 kerRaw1
  pointwise

/-- The first layer's row factors. -/
theorem pay6_apply (i : Fin 3) (u : Fin 1) : k0_pay6 A x W1l W1r (ix2 i u) = kerScale η (raw1 A x W1l W1r) i := by
  unfold k0_pay6 kerScale
  rw [named_floor]
  pointwise
  simp only [pay5_apply]

/-- The positive part of the first layer. -/
theorem pay7_apply (i : Fin 3) (j : Fin 256) : k0_pay7 A x W1l W1r (ix2 i j) = kerAct (raw1 A x W1l W1r) i j := by
  unfold k0_pay7 kerAct
  pointwise
  simp only [pay5_apply]

/-- The left product of the second layer. -/
theorem pay8_apply (i : Fin 3) (j : Fin 128) :
    k0_pay8 A x W1l W1r W2l (ix2 i j) = ∑ k, kerAct (raw1 A x W1l W1r) i k * mat W2l j k := by
  unfold k0_pay8
  pointwise
  simp only [pay7_apply]

/-- The root product of the second layer. -/
theorem pay9_apply (i : Fin 3) (j : Fin 128) :
    k0_pay9 A x W1l W1r W2r (ix2 i j) = ∑ k, kerAct (raw1 A x W1l W1r) i k * mat W2r j k := by
  unfold k0_pay9
  pointwise
  simp only [pay7_apply]

/-- The coefficient of the first row in the second layer. -/
theorem pay10_apply (i : Fin 3) (u : Fin 1) :
    k0_pay10 A x W1l W1r (ix2 i u) = mat A i 0 * kerScale η (raw1 A x W1l W1r) 0 := by
  unfold k0_pay10
  pointwise
  simp only [pay6_apply]

/-! ### Second layer -/

/-- The second layer before its norm. -/
abbrev raw2 : Fin 3 → Fin 128 → EReal :=
  kerRaw (mat A) (kerScale η (raw1 A x W1l W1r)) (kerAct (raw1 A x W1l W1r)) (mat W2l) (mat W2r)

/-- The second layer before its norm. -/
theorem pay11_apply (i : Fin 3) (j : Fin 128) :
    k0_pay11 A (k0_pay6 A x W1l W1r) (k0_pay8 A x W1l W1r W2l) (k0_pay9 A x W1l W1r W2r) (k0_pay10 A x W1l W1r) (ix2 i j)
      = raw2 A x W1l W1r W2l W2r i j := by
  unfold k0_pay11 raw2 kerRaw
  pointwise
  simp only [pay6_apply, pay8_apply, pay9_apply, pay10_apply]

/-- The second layer's row factors. -/
theorem pay12_apply (i : Fin 3) (u : Fin 1) :
    k0_pay12 A (k0_pay6 A x W1l W1r) (k0_pay8 A x W1l W1r W2l) (k0_pay9 A x W1l W1r W2r) (k0_pay10 A x W1l W1r) (ix2 i u)
      = kerScale η (raw2 A x W1l W1r W2l W2r) i := by
  unfold k0_pay12 kerScale
  rw [named_floor]
  pointwise
  simp only [pay11_apply]

/-- The positive part of the second layer. -/
theorem pay13_apply (i : Fin 3) (j : Fin 128) :
    k0_pay13 A (k0_pay6 A x W1l W1r) (k0_pay8 A x W1l W1r W2l) (k0_pay9 A x W1l W1r W2r) (k0_pay10 A x W1l W1r) (ix2 i j)
      = kerAct (raw2 A x W1l W1r W2l W2r) i j := by
  unfold k0_pay13
  pointwise
  simp only [pay11_apply]
  rfl

/-- The left product of the third layer. -/
theorem pay14_apply (i : Fin 3) (j : Fin 64) :
    k0_pay14 A (k0_pay6 A x W1l W1r) (k0_pay8 A x W1l W1r W2l) (k0_pay9 A x W1l W1r W2r) (k0_pay10 A x W1l W1r) W3l (ix2 i j)
      = ∑ k, kerAct (raw2 A x W1l W1r W2l W2r) i k * mat W3l j k := by
  unfold k0_pay14
  pointwise
  simp only [pay13_apply]

/-- The root product of the third layer. -/
theorem pay15_apply (i : Fin 3) (j : Fin 64) :
    k0_pay15 A (k0_pay6 A x W1l W1r) (k0_pay8 A x W1l W1r W2l) (k0_pay9 A x W1l W1r W2r) (k0_pay10 A x W1l W1r) W3r (ix2 i j)
      = ∑ k, kerAct (raw2 A x W1l W1r W2l W2r) i k * mat W3r j k := by
  unfold k0_pay15
  pointwise
  simp only [pay13_apply]

/-- The first row of the third layer's left product. -/
theorem pay16_apply (u : Fin 1) (j : Fin 64) :
    k0_pay16 A (k0_pay6 A x W1l W1r) (k0_pay8 A x W1l W1r W2l) (k0_pay9 A x W1l W1r W2r) (k0_pay10 A x W1l W1r) W3l (ix2 u j)
      = ∑ k, kerAct (raw2 A x W1l W1r W2l W2r) 0 k * mat W3l j k := by
  unfold k0_pay16
  pointwise
  simp only [pay14_apply]

/-- The coefficient of the first row in the third layer, repeated along the row. -/
theorem pay17_apply (i : Fin 3) (j : Fin 64) :
    k0_pay17 A (k0_pay6 A x W1l W1r) (k0_pay8 A x W1l W1r W2l) (k0_pay9 A x W1l W1r W2r) (k0_pay10 A x W1l W1r) (ix2 i j)
      = mat A i 0 * kerScale η (raw2 A x W1l W1r W2l W2r) 0 := by
  unfold k0_pay17
  pointwise
  simp only [pay12_apply]

/-! ### Third layer and the softmax -/

/-- The logits read three rows laid end to end: entry `k` is entry `k` of the first row, then `k - 64` of the second,
    then `k - 128` of the third. -/
theorem logits_rows (h : Fin 3 → Fin 64 → EReal) (W : Fin 128 → Fin 192 → EReal) (o : Fin 128) :
    logits h W o = ∑ k : Fin 192, (if hk : k.val < 64 then h 0 ⟨k.val, hk⟩
      else if hk' : k.val - 64 < 64 then h 1 ⟨k.val - 64, hk'⟩ else h 2 ⟨k.val - 64 - 64, by omega⟩) * W o k := by
  unfold logits
  refine Finset.sum_congr rfl fun k _ => ?_
  congr 1
  have hk := k.isLt
  split
  · congr 1
    · apply Fin.ext; show k.val / 64 = 0; omega
    · apply Fin.ext; show k.val % 64 = k.val; omega
  · split
    · congr 1
      · apply Fin.ext; show k.val / 64 = 1; omega
      · apply Fin.ext; show k.val % 64 = k.val - 64; omega
    · congr 1
      · apply Fin.ext; show k.val / 64 = 2; omega
      · apply Fin.ext; show k.val % 64 = k.val - 64 - 64; omega

/-- The last payload from its operands: the third layer before its norm, and the softmax of its logits. -/
theorem pay18_apply (D : FVec Ideal S3x1 .f32) (HL HR P : FVec Ideal S3x64 .f32) (H0 : FVec Ideal S1x64 .f32)
    (raw : Fin 3 → Fin 64 → EReal)
    (hraw : ∀ i j, P (ix2 i j) * H0 (ix2 0 j) + A (ix2 i 1) * D (ix2 1 0) * HL (ix2 1 j) + A (ix2 i 2) * D (ix2 2 0) * HL (ix2 2 j)
      + D (ix2 i 0) * HR (ix2 i j) = raw i j) (u : Fin 1) (o : Fin 128) :
    k0_pay18 A D HL HR H0 P Wfc (ix2 u o) = softmax (logits (fun i j => kerAct raw i j * kerScale η raw i) (mat Wfc)) o := by
  unfold k0_pay18
  rw [named_floor]
  pointwise
  simp only [hraw, ofBits_bot]
  unfold softmax
  simp only [logits_rows]
  rfl

/-- The row the block writes: the softmax of the logits of the kernel's form of the network, for any averaging matrix. -/
theorem fusedRow_apply (u : Fin 1) (o : Fin 128) :
    fusedRow A x W1l W1r W2l W2r W3l W3r Wfc (ix2 u o)
      = softmax (logits (kerNet η (mat A) (mat x) (mat W1l) (mat W1r) (mat W2l) (mat W2r) (mat W3l) (mat W3r)) (mat Wfc)) o := by
  unfold fusedRow
  refine pay18_apply A Wfc _ _ _ _ _ (kerRaw (mat A) (kerScale η (raw2 A x W1l W1r W2l W2r)) (kerAct (raw2 A x W1l W1r W2l W2r)) (mat W3l) (mat W3r))
    (fun i j => ?_) u o
  unfold kerRaw scale2
  simp only [pay12_apply, pay14_apply, pay15_apply, pay16_apply, pay17_apply]

/-! ### The averaging matrix -/

/-- Two node numbers below three are equal words exactly when they are equal. -/
theorem eq_word (i d : Fin 3) :
    IntOp.cmpi CmpIPredicate.eq (BitVec.ofNat 32 i.val) (BitVec.ofNat 32 d.val) = if d = i then 1#1 else 0#1 := by
  decide +revert

/-- What one edge adds to one entry of the count: one if it leads from node `j` to node `i`, else zero. -/
theorem hit (s d i j : Fin 3) :
    (FloatOps.sitofp (F := Ideal) .f32 (BitVec.setWidth 32 (IntOp.andi
      (IntOp.cmpi CmpIPredicate.eq (BitVec.ofNat 32 i.val) (BitVec.ofNat 32 d.val))
      (IntOp.cmpi CmpIPredicate.eq (BitVec.ofNat 32 j.val) (BitVec.ofNat 32 s.val)))) : EReal)
      = if d = i ∧ s = j then 1 else 0 := by
  rw [eq_word, eq_word]
  show (((BitVec.setWidth 32 (IntOp.andi (if d = i then 1#1 else 0#1) (if s = j then 1#1 else 0#1))).toInt : ℝ) : EReal) = _
  by_cases h : d = i <;> by_cases h' : s = j <;> simp [h, h', IntOp.andi]

/-- The block's matrix is the matrix of the mean over the incoming edges. -/
theorem adj_apply (e : Vec Ideal S2x6 .i32) (s d : Fin 6 → Fin 3) (hs : ∀ k, e (ix2 0 k) = BitVec.ofNat 32 (s k).val)
    (hd : ∀ k, e (ix2 1 k) = BitVec.ofNat 32 (d k).val) (i j : Fin 3) : adj e (ix2 i j) = weight s d i j := by
  unfold adj k0_pay4 k0_pay3 k0_pay2
  pointwise
  simp only [hs, hd, hit]
  unfold weight Sage.count
  simp only [Fin.sum_univ_six]

/-- The last reshape keeps the entries in order. -/
theorem fused_apply (e : Vec Ideal S2x6 .i32) (o : Fin 128) :
    fused e x W1l W1r W2l W2r W3l W3r Wfc (ix1 o) = fusedRow (adj e) x W1l W1r W2l W2r W3l W3r Wfc (ix2 0 o) := by
  unfold fused k0_pay1
  pointwise

/-- THE KERNEL'S RESULT: the softmax of the logits of the kernel's form of the network, for edges between three nodes. -/
theorem fused_eq (e : Vec Ideal S2x6 .i32) (s d : Fin 6 → Fin 3) (hs : ∀ k, e (ix2 0 k) = BitVec.ofNat 32 (s k).val)
    (hd : ∀ k, e (ix2 1 k) = BitVec.ofNat 32 (d k).val) (o : Fin 128) :
    fused e x W1l W1r W2l W2r W3l W3r Wfc (ix1 o)
      = softmax (logits (kerNet η (weight s d) (mat x) (mat W1l) (mat W1r) (mat W2l) (mat W2r) (mat W3l) (mat W3r)) (mat Wfc)) o := by
  rw [fused_apply, fusedRow_apply, show mat (adj e) = weight s d from funext fun i => funext fun j => adj_apply e s d hs hd i j]

end Cert.KernelIdeal.Hand

end
-- ==== Proof.RowsByIndex.lean ====
/-
  Rows taken and rows added by an index column, read entry by entry.

  `gather_rows`: taking whole rows of a table by a column of row numbers. `scatter_rows`: adding rows into a table at a
  column of row numbers. `scatter_ones`: the same with single numbers.
-/
module

public import Idealize.ShloMosaic.Lib.Pointwise

@[expose] public section

noncomputable section

open Idealize.ShloMosaic

namespace Cert.Sage

/-- Taking rows by a column of row numbers in range: row `e` of the result is the row the `e`-th number names. -/
theorem gather_rows {α : Type} {N n K w : ℕ} (d : GatherDims ⟨2, ![N, K]⟩ ⟨2, ![n, 1]⟩ ⟨2, ![n, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, K]⟩ : Shape).Idx → α) (idx : IVec ⟨2, ![n, 1]⟩ w) (e : Fin n) (k : Fin K) (r : Fin N)
    (hr : (idx (ix2 e 0)).toInt = r.val) :
    Host.gather d x idx (ix2 e k) = x (ix2 r k) := by
  obtain ⟨od, cd, ob, sb, sm, iv, ss, wf⟩ := d
  simp only at h1 h2 h3 h4 h5 h6
  subst h1 h2 h3 h4 h5 h6
  have hs0 : ss 0 = 1 := wf.2.2.2.2.2.2.2.2.2.2.2.1 0 (by simp)
  show x _ = x _
  congr 1
  funext a
  apply Fin.ext
  fin_cases a
  · show min (idx _).toInt.toNat (N - ss 0) + 0 + 0 = r.val
    have : ∀ q, q = ix2 e 0 → min (idx q).toInt.toNat (N - ss 0) + 0 + 0 = r.val := by
      rintro q rfl
      rw [hr, hs0]
      have := r.isLt
      simp
      omega
    apply this
    funext b
    fin_cases b <;> rfl
  · show 0 + 0 + k.val = k.val
    omega

/-- Where an added row lands: entry `k` of row `e` lands at entry `k` of the row the `e`-th number names. -/
theorem scatter_at {N n K w : ℕ} (d : ScatterDims ⟨2, ![N, K]⟩ ⟨2, ![n, 1]⟩ ⟨2, ![n, K]⟩)
    (h1 : d.updateWindowDims = [1]) (h2 : d.insertedWindowDims = [0]) (h3 : d.scatterDimsToOperandDims = [0])
    (h4 : d.indexVectorDim = 1) (idx : IVec ⟨2, ![n, 1]⟩ w) (e : Fin n) (k : Fin K) (r : Fin N)
    (hr : (idx (ix2 e 0)).toInt = r.val) :
    d.resultIdx? (ix2 e k) idx = some (ix2 r k) := by
  obtain ⟨uw, iw, sd, iv, wf⟩ := d
  simp only at h1 h2 h3 h4
  subst h1 h2 h3 h4
  have hs0 : ∀ q, q = ix2 e 0 → (idx q).toInt = r.val := by rintro q rfl; exact hr
  have hst0 : ScatterDims.start (s := ⟨2, ![N, K]⟩) ⟨[1], [0], [0], 1, wf⟩ (ix2 e k) idx (0 : Fin 2) = r.val := by
    show (idx _).toInt = r.val
    apply hs0
    funext b
    fin_cases b <;> rfl
  have hst1 : ScatterDims.start (s := ⟨2, ![N, K]⟩) ⟨[1], [0], [0], 1, wf⟩ (ix2 e k) idx (1 : Fin 2) = 0 := rfl
  have hw0 : ScatterDims.window (s := ⟨2, ![N, K]⟩) ⟨[1], [0], [0], 1, wf⟩ (ix2 e k) (0 : Fin 2) = 0 := rfl
  have hw1 : ScatterDims.window (s := ⟨2, ![N, K]⟩) ⟨[1], [0], [0], 1, wf⟩ (ix2 e k) (1 : Fin 2) = k.val := rfl
  have hlt : ∀ a : Fin 2, 0 ≤ ScatterDims.start (s := ⟨2, ![N, K]⟩) ⟨[1], [0], [0], 1, wf⟩ (ix2 e k) idx a
        + ScatterDims.window (s := ⟨2, ![N, K]⟩) ⟨[1], [0], [0], 1, wf⟩ (ix2 e k) a
      ∧ ScatterDims.start (s := ⟨2, ![N, K]⟩) ⟨[1], [0], [0], 1, wf⟩ (ix2 e k) idx a
        + ScatterDims.window (s := ⟨2, ![N, K]⟩) ⟨[1], [0], [0], 1, wf⟩ (ix2 e k) a < (⟨2, ![N, K]⟩ : Shape).size a := by
    intro a
    fin_cases a
    · have := r.isLt
      simp only [Fin.zero_eta, hst0, hw0]
      show _ ∧ _ < ((N : ℕ) : Int)
      omega
    · have := k.isLt
      simp only [Fin.mk_one, hst1, hw1]
      show _ ∧ _ < ((K : ℕ) : Int)
      omega
  unfold ScatterDims.resultIdx?
  rw [dif_pos hlt]
  congr 1
  funext a
  apply Fin.ext
  fin_cases a
  · exact (congrArg Int.toNat (congrArg₂ (· + ·) hst0 (congrArg Nat.cast hw0))).trans (by simp)
  · exact (congrArg Int.toNat (congrArg₂ (· + ·) hst1 (congrArg Nat.cast hw1))).trans (show ((0 : Int) + (k.val : Int)).toNat = k.val by simp)

/-- Where an added number lands: at the entry the `e`-th number names. -/
theorem scatter_at1 {N n w : ℕ} (d : ScatterDims ⟨1, ![N]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ w) (e : Fin n) (r : Fin N)
    (hr : (idx (ix2 e 0)).toInt = r.val) :
    d.resultIdx? (ix1 e) idx = some (ix1 r) := by
  obtain ⟨uw, iw, sd, iv, wf⟩ := d
  simp only at h1 h2 h3 h4
  subst h1 h2 h3 h4
  have hs0 : ∀ q, q = ix2 e 0 → (idx q).toInt = r.val := by rintro q rfl; exact hr
  have hst0 : ScatterDims.start (s := ⟨1, ![N]⟩) ⟨[], [0], [0], 1, wf⟩ (ix1 e) idx (0 : Fin 1) = r.val := by
    show (idx _).toInt = r.val
    apply hs0
    funext b
    fin_cases b <;> rfl
  have hw0 : ScatterDims.window (s := ⟨1, ![N]⟩) ⟨[], [0], [0], 1, wf⟩ (ix1 e) (0 : Fin 1) = 0 := rfl
  have hlt : ∀ a : Fin 1, 0 ≤ ScatterDims.start (s := ⟨1, ![N]⟩) ⟨[], [0], [0], 1, wf⟩ (ix1 e) idx a
        + ScatterDims.window (s := ⟨1, ![N]⟩) ⟨[], [0], [0], 1, wf⟩ (ix1 e) a
      ∧ ScatterDims.start (s := ⟨1, ![N]⟩) ⟨[], [0], [0], 1, wf⟩ (ix1 e) idx a
        + ScatterDims.window (s := ⟨1, ![N]⟩) ⟨[], [0], [0], 1, wf⟩ (ix1 e) a < (⟨1, ![N]⟩ : Shape).size a := by
    intro a
    fin_cases a
    have := r.isLt
    simp only [Fin.zero_eta, hst0, hw0]
    show _ ∧ _ < ((N : ℕ) : Int)
    omega
  unfold ScatterDims.resultIdx?
  rw [dif_pos hlt]
  congr 1
  funext a
  apply Fin.ext
  fin_cases a
  exact (congrArg Int.toNat (congrArg₂ (· + ·) hst0 (congrArg Nat.cast hw0))).trans (by simp)

/-- Adding rows at a column of row numbers in range: to entry `k` of row `i` are added the entries `k` of the rows whose
    number is `i`. -/
theorem scatter_rows {N n K w : ℕ} (d : ScatterDims ⟨2, ![N, K]⟩ ⟨2, ![n, 1]⟩ ⟨2, ![n, K]⟩)
    (h1 : d.updateWindowDims = [1]) (h2 : d.insertedWindowDims = [0]) (h3 : d.scatterDimsToOperandDims = [0])
    (h4 : d.indexVectorDim = 1) (x : FVec Ideal ⟨2, ![N, K]⟩ .f32) (idx : IVec ⟨2, ![n, 1]⟩ w) (upd : FVec Ideal ⟨2, ![n, K]⟩ .f32)
    (r : Fin n → Fin N) (hr : ∀ e, (idx (ix2 e 0)).toInt = (r e).val) (i : Fin N) (k : Fin K) :
    Host.scatterAdd d x idx upd (ix2 i k) = x (ix2 i k) + ∑ e, if r e = i then upd (ix2 e k) else 0 := by
  show x (ix2 i k) + ∑ j ∈ Finset.univ.filter (fun j => d.resultIdx? j idx = some (ix2 i k)), upd j = _
  congr 1
  rw [Finset.sum_filter, Idealize.ShloMosaic.sum_idx2]
  refine Finset.sum_congr rfl fun e _ => ?_
  rw [Finset.sum_eq_single k]
  · rw [scatter_at d h1 h2 h3 h4 idx e k (r e) (hr e)]
    by_cases h : r e = i
    · simp [h]
    · rw [if_neg h, if_neg]
      intro h'
      exact h (congrFun (Option.some.inj h') 0)
  · intro k' _ hk
    rw [scatter_at d h1 h2 h3 h4 idx e k' (r e) (hr e), if_neg]
    intro h'
    exact hk (congrFun (Option.some.inj h') 1)
  · simp

/-- Adding numbers at a column of entry numbers in range. -/
theorem scatter_ones {N n w : ℕ} (d : ScatterDims ⟨1, ![N]⟩ ⟨2, ![n, 1]⟩ ⟨1, ![n]⟩)
    (h1 : d.updateWindowDims = []) (h2 : d.insertedWindowDims = [0]) (h3 : d.scatterDimsToOperandDims = [0])
    (h4 : d.indexVectorDim = 1) (x : FVec Ideal ⟨1, ![N]⟩ .f32) (idx : IVec ⟨2, ![n, 1]⟩ w) (upd : FVec Ideal ⟨1, ![n]⟩ .f32)
    (r : Fin n → Fin N) (hr : ∀ e, (idx (ix2 e 0)).toInt = (r e).val) (i : Fin N) :
    Host.scatterAdd d x idx upd (ix1 i) = x (ix1 i) + ∑ e, if r e = i then upd (ix1 e) else 0 := by
  show x (ix1 i) + ∑ j ∈ Finset.univ.filter (fun j => d.resultIdx? j idx = some (ix1 i)), upd j = _
  congr 1
  rw [Finset.sum_filter, Idealize.ShloMosaic.sum_idx1]
  refine Finset.sum_congr rfl fun e _ => ?_
  rw [scatter_at1 d h1 h2 h3 h4 idx e (r e) (hr e)]
  by_cases h : r e = i
  · simp [h]
  · rw [if_neg h, if_neg]
    intro h'
    exact h (congrFun (Option.some.inj h') 0)

end Cert.Sage

end
-- ==== Proof.ReferenceRead.lean ====
/-
  What the reference computes over the extended reals, read entry by entry: each layer is the reference's form of the layer
  (`Layers.lean`), and the result is the softmax of the logits of the last one.
-/
module

public import proofs.«01_k».proof.Proof.Gen.ReferenceIdeal.Run
public import proofs.«01_k».proof.Proof.Layers
public import proofs.«01_k».proof.Proof.Consts
public import proofs.«01_k».proof.Proof.RowsByIndex
public import Idealize.ShloMosaic.Lib.Pointwise

@[expose] public section

noncomputable section

open Idealize.ShloMosaic Idealize.ShloMosaic.TcCoe

namespace Cert.ReferenceIdeal.Hand

open Cert.ReferenceIdeal Cert.ReferenceIdeal.Gen Cert.ReferenceIdeal.Value Cert.Sage

/-- Node numbers below three are not wrapped: the index column holds them unchanged. -/
theorem column (v : IVec S6 32) (f : Fin 6 → Fin 3) (hv : ∀ e, v (ix1 e) = BitVec.ofNat 32 (f e).val) (e : Fin 6) :
    ((broadcastInDim S6x1 ![0] bcast_S6_S6x1_0 (select (cmpi .slt v (broadcastInDim S6 ![] bcast_S_S6 (constantI S_ 32 0#32)))
      (addi v (broadcastInDim S6 ![] bcast_S_S6 (constantI S_ 32 3#32))) v) : IVec S6x1 32) (ix2 e 0)).toInt = (f e).val := by
  pointwise
  rw [hv]
  generalize f e = n
  decide +revert

variable (V0 : Valuation τ sig (Elt Ideal)) (s d : Fin 6 → Fin 3)

/-- The first row of the edge array holds the sources. -/
theorem v1_apply (e : Fin 6) : (res_main_v1 V0 : IVec S6 32) (ix1 e) = (V0 (Proc.devRef .tc main_arg1) : IVec S2x6 32) (ix2 0 e) := by
  unfold res_main_v1
  pointwise

/-- The second row of the edge array holds the destinations. -/
theorem v3_apply (e : Fin 6) : (res_main_v3 V0 : IVec S6 32) (ix1 e) = (V0 (Proc.devRef .tc main_arg1) : IVec S2x6 32) (ix2 1 e) := by
  unfold res_main_v3
  pointwise

variable (hs : ∀ e, (V0 (Proc.devRef .tc main_arg1) : IVec S2x6 32) (ix2 0 e) = BitVec.ofNat 32 (s e).val)
  (hd : ∀ e, (V0 (Proc.devRef .tc main_arg1) : IVec S2x6 32) (ix2 1 e) = BitVec.ofNat 32 (d e).val)

include hs in
/-- The sources, as the programs' index column. -/
theorem col_s (v : IVec S6 32) (hv : v = res_main_v1 V0) (e : Fin 6) :
    ((broadcastInDim S6x1 ![0] bcast_S6_S6x1_0 (select (cmpi .slt v (broadcastInDim S6 ![] bcast_S_S6 (constantI S_ 32 0#32)))
      (addi v (broadcastInDim S6 ![] bcast_S_S6 (constantI S_ 32 3#32))) v) : IVec S6x1 32) (ix2 e 0)).toInt = (s e).val :=
  column v s (fun e => by rw [hv, v1_apply, hs]) e

include hd in
/-- The destinations, as the programs' index column. -/
theorem col_d (v : IVec S6 32) (hv : v = res_main_v3 V0) (e : Fin 6) :
    ((broadcastInDim S6x1 ![0] bcast_S6_S6x1_0 (select (cmpi .slt v (broadcastInDim S6 ![] bcast_S_S6 (constantI S_ 32 0#32)))
      (addi v (broadcastInDim S6 ![] bcast_S_S6 (constantI S_ 32 3#32))) v) : IVec S6x1 32) (ix2 e 0)).toInt = (d e).val :=
  column v d (fun e => by rw [hv, v3_apply, hd]) e

variable (hb1 : ∀ j, (V0 (Proc.devRef .tc main_arg3) : FVec Ideal S256 .f32) (ix1 j) = (0 : EReal))
  (hb2 : ∀ j, (V0 (Proc.devRef .tc main_arg6) : FVec Ideal S128 .f32) (ix1 j) = (0 : EReal))
  (hb3 : ∀ j, (V0 (Proc.devRef .tc main_arg9) : FVec Ideal S64 .f32) (ix1 j) = (0 : EReal))
  (hbfc : ∀ j, (V0 (Proc.devRef .tc main_arg12) : FVec Ideal S128 .f32) (ix1 j) = (0 : EReal))

include hs hd hb1 in
/-- Layer 1 before its norm. -/
theorem raw1_apply (i : Fin 3) (j : Fin 256) :
    (res_main_v40 V0 : FVec Ideal S3x256 .f32) (ix2 i j)
      = refRaw s d (mat (V0 (Proc.devRef .tc main_arg0))) (mat (V0 (Proc.devRef .tc main_arg2))) (mat (V0 (Proc.devRef .tc main_arg4))) i j := by
  have hg : ∀ (e : Fin 6) (k : Fin 512), Host.gather gather_S3x512_S6x1_S6x512_1_0_n_n_0_1_1512 (V0 (Proc.devRef .tc main_arg0)) _ (ix2 e k)
      = (V0 (Proc.devRef .tc main_arg0) : FVec Ideal S3x512 .f32) (ix2 (s e) k) :=
    fun e k => gather_rows gather_S3x512_S6x1_S6x512_1_0_n_n_0_1_1512 rfl rfl rfl rfl rfl rfl _ _ e k (s e) (col_s V0 s hs (res_main_v1 V0) rfl e)
  unfold res_main_v40 refRaw mean degree
  pointwise
  simp only [scatter_rows scatter_S3x512_S6x1_S6x512_1_0_0_1 rfl rfl rfl rfl _ _ _ d (col_d V0 d hd (res_main_v3 V0) rfl),
    scatter_ones scatter_S3_S6x1_S6_n_0_0_1 rfl rfl rfl rfl _ _ _ d (col_d V0 d hd (res_main_v3 V0) rfl), hg, hb1]
  pointwise

/-- Layer 1. -/
theorem act1_apply (i : Fin 3) (j : Fin 256) :
    (res_main_v46 V0 : FVec Ideal S3x256 .f32) (ix2 i j) = refAct floor (mat (res_main_v40 V0)) i j := by
  unfold res_main_v46 refAct
  pointwise
  simp only [ofBits_floor]

include hs hd hb2 in
/-- Layer 2 before its norm. -/
theorem raw2_apply (i : Fin 3) (j : Fin 128) :
    (res_main_v87 V0 : FVec Ideal S3x128 .f32) (ix2 i j)
      = refRaw s d (mat (res_main_v46 V0)) (mat (V0 (Proc.devRef .tc main_arg5))) (mat (V0 (Proc.devRef .tc main_arg7))) i j := by
  have hg : ∀ (e : Fin 6) (k : Fin 256), Host.gather gather_S3x256_S6x1_S6x256_1_0_n_n_0_1_1256 (res_main_v46 V0) _ (ix2 e k)
      = (res_main_v46 V0 : FVec Ideal S3x256 .f32) (ix2 (s e) k) :=
    fun e k => gather_rows gather_S3x256_S6x1_S6x256_1_0_n_n_0_1_1256 rfl rfl rfl rfl rfl rfl _ _ e k (s e) (col_s V0 s hs (res_main_v48 V0) rfl e)
  unfold res_main_v87 refRaw mean degree
  pointwise
  simp only [scatter_rows scatter_S3x256_S6x1_S6x256_1_0_0_1 rfl rfl rfl rfl _ _ _ d (col_d V0 d hd (res_main_v50 V0) rfl),
    scatter_ones scatter_S3_S6x1_S6_n_0_0_1 rfl rfl rfl rfl _ _ _ d (col_d V0 d hd (res_main_v50 V0) rfl), hg, hb2]
  pointwise

/-- Layer 2. -/
theorem act2_apply (i : Fin 3) (j : Fin 128) :
    (res_main_v93 V0 : FVec Ideal S3x128 .f32) (ix2 i j) = refAct floor (mat (res_main_v87 V0)) i j := by
  unfold res_main_v93 refAct
  pointwise
  simp only [ofBits_floor]

include hs hd hb3 in
/-- Layer 3 before its norm. -/
theorem raw3_apply (i : Fin 3) (j : Fin 64) :
    (res_main_v134 V0 : FVec Ideal S3x64 .f32) (ix2 i j)
      = refRaw s d (mat (res_main_v93 V0)) (mat (V0 (Proc.devRef .tc main_arg8))) (mat (V0 (Proc.devRef .tc main_arg10))) i j := by
  have hg : ∀ (e : Fin 6) (k : Fin 128), Host.gather gather_S3x128_S6x1_S6x128_1_0_n_n_0_1_1128 (res_main_v93 V0) _ (ix2 e k)
      = (res_main_v93 V0 : FVec Ideal S3x128 .f32) (ix2 (s e) k) :=
    fun e k => gather_rows gather_S3x128_S6x1_S6x128_1_0_n_n_0_1_1128 rfl rfl rfl rfl rfl rfl _ _ e k (s e) (col_s V0 s hs (res_main_v95 V0) rfl e)
  unfold res_main_v134 refRaw mean degree
  pointwise
  simp only [scatter_rows scatter_S3x128_S6x1_S6x128_1_0_0_1 rfl rfl rfl rfl _ _ _ d (col_d V0 d hd (res_main_v97 V0) rfl),
    scatter_ones scatter_S3_S6x1_S6_n_0_0_1 rfl rfl rfl rfl _ _ _ d (col_d V0 d hd (res_main_v97 V0) rfl), hg, hb3]
  pointwise

include hbfc in
/-- The third layer's rows, laid end to end and met by the last weights. -/
theorem v143_apply (o : Fin 128) :
    (res_main_v143 V0 : FVec Ideal S128 .f32) (ix1 o)
      = logits (refAct floor (mat (res_main_v134 V0))) (mat (V0 (Proc.devRef .tc main_arg11))) o := by
  unfold res_main_v143 logits refAct
  pointwise
  rw [hbfc, add_zero, ofBits_floor]
  exact Finset.sum_congr (M := EReal) rfl fun k _ => mul_comm (G := EReal) _ _

/-- The reference's logits, as a function of the class. -/
def logit (o : Fin 128) : EReal := (res_main_v143 V0 : FVec Ideal S128 .f32) (ix1 o)

/-- The largest entry over all indices that reduce to the one index left is the largest over the classes. -/
theorem fold_classes (b : EReal) (z : S128.Idx → EReal) (p : S128.Idx → Prop) [DecidablePred p] (hp : ∀ i, p i) :
    Finset.fold max b z (Finset.univ.filter p) = Finset.univ.fold max b fun o : Fin 128 => z (ix1 o) := by
  have hu : Finset.univ.filter p = Finset.univ.image fun o : Fin 128 => (ix1 o : S128.Idx) := by
    ext i
    simp only [Finset.mem_filter, Finset.mem_univ, true_and, hp, Finset.mem_image, true_iff]
    exact ⟨i 0, (eq_ix1 i).symm⟩
  rw [hu, Finset.fold_image fun a _ b _ h => congrFun h 0]
  rfl

/-- The exponential of each logit less the largest. -/
theorem v149_apply (o : Fin 128) :
    (res_main_v149 V0 : FVec Ideal S128 .f32) (ix1 o) = Ideal.exp (logit V0 o - Finset.univ.fold max ⊥ (logit V0)) := by
  unfold res_main_v149 logit
  pointwise
  rw [ofBits_bot]
  exact congrArg (fun b : EReal => Ideal.exp (logit V0 o - b)) ((max_eq_right bot_le).trans
    (fold_classes ⊥ (res_main_v143 V0) (fun i => reducesTo_S128_S_d0.drop i = ix0) fun i => funext fun d => d.elim0))

/-- The result: each exponential over their sum. -/
theorem v153_apply (o : Fin 128) :
    (Host.divf (res_main_v149 V0) (broadcastInDim S128 ![0] bcast_S1_S128_0 (broadcastInDim S1 ![] bcast_S_S1
      (Host.reduceAdd (res_main_v149 V0) (constant S_ .f32 0x00000000#32) reducesTo_S128_S_d0 h_S_))) : FVec Ideal S128 .f32) (ix1 o)
      = softmax (logit V0) o := by
  unfold softmax
  pointwise
  simp only [v149_apply]

include hs hd hb1 hb2 hb3 hbfc in
/-- THE REFERENCE'S RESULT: the softmax of the logits of the reference's form of the network, for edges between three nodes and
    biases that are zero. -/
theorem result_apply (o : Fin 128) :
    (Host.divf (res_main_v149 V0) (broadcastInDim S128 ![0] bcast_S1_S128_0 (broadcastInDim S1 ![] bcast_S_S1
      (Host.reduceAdd (res_main_v149 V0) (constant S_ .f32 0x00000000#32) reducesTo_S128_S_d0 h_S_))) : FVec Ideal S128 .f32) (ix1 o)
      = softmax (logits (refNet floor s d (mat (V0 (Proc.devRef .tc main_arg0))) (mat (V0 (Proc.devRef .tc main_arg2)))
          (mat (V0 (Proc.devRef .tc main_arg4))) (mat (V0 (Proc.devRef .tc main_arg5))) (mat (V0 (Proc.devRef .tc main_arg7)))
          (mat (V0 (Proc.devRef .tc main_arg8))) (mat (V0 (Proc.devRef .tc main_arg10)))) (mat (V0 (Proc.devRef .tc main_arg11)))) o := by
  rw [v153_apply, show logit V0 = _ from funext (v143_apply V0 hbfc),
    show mat (res_main_v134 V0) = _ from funext fun i => funext fun j => raw3_apply V0 s d hs hd hb3 i j,
    show mat (res_main_v93 V0) = _ from funext fun i => funext fun j => act2_apply V0 i j,
    show mat (res_main_v87 V0) = _ from funext fun i => funext fun j => raw2_apply V0 s d hs hd hb2 i j,
    show mat (res_main_v46 V0) = _ from funext fun i => funext fun j => act1_apply V0 i j,
    show mat (res_main_v40 V0) = _ from funext fun i => funext fun j => raw1_apply V0 s d hs hd hb1 i j]
  rfl

end Cert.ReferenceIdeal.Hand

end
-- ==== Proof.Domain.lean ====
/-
  What the precondition says of the arguments, entry by entry: the twelve edge words are node numbers below three, the
  first left weights are real numbers, the biases are zero.
-/
module

public import proofs.«01_k».proof.Pre_edges_in_range_no_bias
public import proofs.«01_k».proof.Proof.Consts
public import Idealize.ShloMosaic.Lib.Pointwise
public import Idealize.ShloMosaic.Lib.StableHlo.Predicate

@[expose] public section

noncomputable section

open Idealize.ShloMosaic

namespace Cert.Sage

open Cert.Pre_edges_in_range_no_bias Idealize.ShloMosaic.StableHlo.Predicate

/-- Two flags joined are set exactly when both are. -/
theorem andi_set (a b : BitVec 1) : IntOp.andi a b = 1#1 ↔ a = 1#1 ∧ b = 1#1 := by
  decide +revert

/-- Flags joined one after another: when the result is set, so is every flag. -/
theorem join_set {ι : Type} (f : ι → BitVec 1) (l : List ι) (b : BitVec 1)
    (h : l.foldl (fun r n => IntOp.andi r (f n)) b = 1#1) : b = 1#1 ∧ ∀ i ∈ l, f i = 1#1 := by
  induction l generalizing b with
  | nil => exact ⟨h, by simp⟩
  | cons a l ih =>
    obtain ⟨hb, hl⟩ := ih _ h
    rw [andi_set] at hb
    exact ⟨hb.1, fun i hi => by rcases List.mem_cons.1 hi with rfl | hi; exacts [hb.2, hl i hi]⟩

/-- The same of a whole array joined to a single flag. -/
theorem all_set {s u : Shape} {dims : List (Fin s.rank)} (p : IVec s 1) (h : s.ReducesTo dims ⟨0, ![]⟩) (hu : 0 < u.numel) (c : IVec u 1)
    (j : (⟨0, ![]⟩ : Shape).Idx) (H : Host.reduce IntOp.andi p c h hu j = 1#1) (i : s.Idx) : p i = 1#1 := by
  have := (join_set (fun n => p (s.rowMajor.symm n)) _ _ H).2 (s.rowMajor i)
    (List.mem_filter.2 ⟨List.mem_finRange _, by simp only [decide_eq_true_eq]; funext a; exact a.elim0⟩)
  simpa using this

/-- A word that is at least zero and below three, read signed, is one of the three node numbers. -/
theorem node (w : BitVec 32) (h0 : IntOp.cmpi .sge w 0#32 = 1#1) (h3 : IntOp.cmpi .slt w 3#32 = 1#1) :
    ∃ n : Fin 3, w = BitVec.ofNat 32 n.val := by
  simp only [IntOp.cmpi, ofBool_eq_one_iff, BitVec.sle, BitVec.slt, decide_eq_true_eq] at h0 h3
  have z : (0#32 : BitVec 32).toInt = 0 := rfl
  have t : (3#32 : BitVec 32).toInt = 3 := rfl
  rw [z] at h0
  rw [t] at h3
  refine ⟨⟨w.toInt.toNat, by omega⟩, ?_⟩
  apply BitVec.eq_of_toInt_eq
  show w.toInt = (BitVec.ofNat 32 w.toInt.toNat).toInt
  rw [toInt_ofNat_small _ (by omega)]
  omega

/-- A number whose absolute value is below plus infinity is real. -/
theorem real_of_abs (v : EReal) (h : Ideal.cmp .olt (max v (-v)) ⊤ = 1#1) : ∃ w : ℝ, v = (w : EReal) := by
  simp only [Ideal.cmp, ofBool_eq_one_iff, decide_eq_true_eq] at h
  induction v with
  | bot => simp at h
  | top => simp at h
  | coe w => exact ⟨w, rfl⟩

/-- A number that compares equal to zero is zero. -/
theorem zero_of_eq (v : EReal) (h : Ideal.cmp .oeq v 0 = 1#1) : v = 0 := by
  simpa only [Ideal.cmp, ofBool_eq_one_iff, decide_eq_true_eq] using h

variable [Facts]

/-- THE PRECONDITION, READ: sources and destinations are node numbers, the first left weights are real, the four biases zero. -/
theorem domain (a0 : FVec Ideal S3x512 .f32) (e : IVec S2x6 32) (W1l : FVec Ideal S256x512 .f32) (b1 : FVec Ideal S256 .f32)
    (W1r : FVec Ideal S256x512 .f32) (W2l : FVec Ideal S128x256 .f32) (b2 : FVec Ideal S128 .f32) (W2r : FVec Ideal S128x256 .f32)
    (W3l : FVec Ideal S64x128 .f32) (b3 : FVec Ideal S64 .f32) (W3r : FVec Ideal S64x128 .f32) (Wfc : FVec Ideal S128x192 .f32)
    (bfc : FVec Ideal S128 .f32) (H : fn (F := Ideal) a0 e W1l b1 W1r W2l b2 W2r W3l b3 W3r Wfc bfc = fun _ => 1#1) :
    (∃ s d : Fin 6 → Fin 3, (∀ k, e (ix2 0 k) = BitVec.ofNat 32 (s k).val) ∧ (∀ k, e (ix2 1 k) = BitVec.ofNat 32 (d k).val))
      ∧ (∀ j k, ∃ w : ℝ, W1l (ix2 j k) = (w : EReal))
      ∧ (∀ j, b1 (ix1 j) = (0 : EReal)) ∧ (∀ j, b2 (ix1 j) = (0 : EReal)) ∧ (∀ j, b3 (ix1 j) = (0 : EReal))
      ∧ (∀ j, bfc (ix1 j) = (0 : EReal)) := by
  have h := congrFun H (fun a => a.elim0)
  unfold fn fn_part1 at h
  dsimp only at h
  simp only [andi, andi_set] at h
  obtain ⟨⟨⟨⟨⟨he, hW⟩, h1⟩, h2⟩, h3⟩, hfc⟩ := h
  have hnode : ∀ r k, ∃ n : Fin 3, e (ix2 r k) = BitVec.ofNat 32 n.val := fun r k => by
    have := all_set _ _ _ _ _ he (ix2 r k)
    have := (andi_set _ _).1 this
    exact node _ this.1 this.2
  choose n hn using hnode
  refine ⟨⟨n 0, n 1, hn 0, hn 1⟩, fun j k => ?_, fun j => ?_, fun j => ?_, fun j => ?_, fun j => ?_⟩
  · exact real_of_abs _ (by rw [← ofBits_top]; exact all_set _ _ _ _ _ hW (ix2 j k))
  · have := all_set _ _ _ _ _ h1 (ix1 j); exact zero_of_eq _ (by rw [← ofBits_zero]; exact this)
  · have := all_set _ _ _ _ _ h2 (ix1 j); exact zero_of_eq _ (by rw [← ofBits_zero]; exact this)
  · have := all_set _ _ _ _ _ h3 (ix1 j); exact zero_of_eq _ (by rw [← ofBits_zero]; exact this)
  · have := all_set _ _ _ _ _ hfc (ix1 j); exact zero_of_eq _ (by rw [← ofBits_zero]; exact this)

end Cert.Sage

end
-- ==== Proof.lean ====
/-
  The claims of this certificate, put together: the frames of the three programs, the one named constant, and the equality of the
  kernel's and the reference's results over the extended reals. The kernel's result is read in `Proof/Block.lean` and
  `Proof/KernelRead.lean`, the reference's in `Proof/ReferenceRead.lean`, the precondition in `Proof/Domain.lean`; the equation
  between the two forms of the network is `net_eq` in `Proof/Layers.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_edges_in_range_no_bias
public import proofs.«01_k».proof.Proof.Block
public import proofs.«01_k».proof.Proof.KernelRead
public import proofs.«01_k».proof.Proof.ReferenceRead
public import proofs.«01_k».proof.Proof.Domain
public import Idealize.ShloMosaic.Lib.Quiescent
public import Idealize.ShloMosaic.Adequacy
public import Idealize.ShloMosaic.Init

@[expose] public section

noncomputable section

namespace Cert.Proof

open Idealize.ShloMosaic Idealize.SL.Sem Cert.Sage

/-- The reference's frame: it declares no semaphore, so every counter stays at zero. -/
theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The two forms of the network on equal arrays give the same softmax, when the first left weight is finite. -/
theorem forms_eq (s d : Fin 6 → Fin 3) {x x' : FVec Ideal ⟨2, ![3, 512]⟩ .f32} {W1l W1l' W1r W1r' : FVec Ideal ⟨2, ![256, 512]⟩ .f32}
    {W2l W2l' W2r W2r' : FVec Ideal ⟨2, ![128, 256]⟩ .f32} {W3l W3l' W3r W3r' : FVec Ideal ⟨2, ![64, 128]⟩ .f32}
    {Wfc Wfc' : FVec Ideal ⟨2, ![128, 192]⟩ .f32} (hx : x = x') (h1l : W1l = W1l') (h1r : W1r = W1r') (h2l : W2l = W2l')
    (h2r : W2r = W2r') (h3l : W3l = W3l') (h3r : W3r = W3r') (hfc : Wfc = Wfc') (hW : ∀ j k, ∃ w : ℝ, W1l' (ix2 j k) = (w : EReal))
    (o : Fin 128) :
    softmax (logits (refNet floor s d (mat x) (mat W1l) (mat W1r) (mat W2l) (mat W2r) (mat W3l) (mat W3r)) (mat Wfc)) o
      = softmax (logits (kerNet η (weight s d) (mat x') (mat W1l') (mat W1r') (mat W2l') (mat W2r') (mat W3l') (mat W3r')) (mat Wfc')) o := by
  subst hx h1l h1r h2l h2r h3l h3r hfc
  rw [show refNet floor s d (mat x) (mat W1l) (mat W1r) (mat W2l) (mat W2r) (mat W3l) (mat W3r) = _ from
    funext fun i => funext fun j => net_eq floor floor_pos s d (mat x) (mat W1l) (mat W1r) (mat W2l) (mat W2r) (mat W3l) (mat W3r) hW i j]

/-- THE VALUES: on memories agreeing on the arguments, which satisfy the precondition, both programs end with equal results. -/
theorem value : Cert.algebraic_KernelIdeal_ReferenceIdeal_pre_edges_in_range_no_bias (hKernelIdeal := Cert.KernelIdeal.Gen.facts)
    (hReferenceIdeal := Cert.ReferenceIdeal.Gen.facts)
    (hPre_edges_in_range_no_bias := Cert.Pre_edges_in_range_no_bias.Gen.facts) := by
  intro m g m' g' hpre hagree
  refine ⟨fun c => Cert.KernelIdeal.Hand.result m c, ?_, ?_⟩
  · exact (θ_run _ _ _).mono (fun r h c => ⟨(h c).1.trans (Cert.KernelIdeal.Hand.final m c), (h c).2⟩)
      (Cert.KernelIdeal.Value.run_blocks m g)
  · refine (θ_run _ _ _).mono (fun r h c => ⟨(h c).1.trans ?_, (h c).2⟩) (Cert.ReferenceIdeal.Value.run (F := Ideal) m' g')
    obtain ⟨h0, h1, h2, h3, h4, h5, h6, h7, h8, h9, h10, h11, h12⟩ := hagree c
    obtain ⟨⟨s, d, hs, hd⟩, hW, hb1, hb2, hb3, hbfc⟩ := Cert.Sage.domain _ _ _ _ _ _ _ _ _ _ _ _ _ (hpre c)
    funext o
    obtain ⟨o, rfl⟩ : ∃ k : Fin 128, o = ix1 k := ⟨o 0, eq_ix1 o⟩
    exact (Cert.ReferenceIdeal.Hand.result_apply (StableHlo.launchContents m' c) s d (fun k => (congrFun h1 _).trans (hs k))
      (fun k => (congrFun h1 _).trans (hd k)) (fun k => (congrFun h3 _).trans (hb1 k)) (fun k => (congrFun h6 _).trans (hb2 k))
      (fun k => (congrFun h9 _).trans (hb3 k)) (fun k => (congrFun h12 _).trans (hbfc k)) o).trans
      ((forms_eq s d h0 h2 h4 h5 h7 h8 h10 h11 hW o).trans
        (Cert.KernelIdeal.Hand.fused_eq _ _ _ _ _ _ _ _ _ s d hs hd o).symm)

/-- All the claims. -/
theorem claim : Cert.Claim :=
  ⟨Cert.Kernel.Gen.facts, Cert.KernelIdeal.Gen.facts, Cert.ReferenceIdeal.Gen.facts, Cert.Pre_edges_in_range_no_bias.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "floor_sq" .f32 0x179ABE15#32
      ((5316911940649 / 5316911983139663491615228241121378304 : ℝ) : EReal) rfl,
    value⟩

end Cert.Proof

end
